-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pooled_columns_finite [hPre_pooled_columns_finite : Cert.Pre_pooled_columns_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pooled_columns_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pooled_columns_finite [hPre_pooled_columns_finite : Cert.Pre_pooled_columns_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pooled_columns_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_pooled_columns_finite [hKernel5Ideal : Cert.Kernel5Ideal.Facts] [hPre_pooled_columns_finite : Cert.Pre_pooled_columns_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pooled_columns_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_pooled_columns_finite [hReference5Ideal : Cert.Reference5Ideal.Facts] [hPre_pooled_columns_finite : Cert.Pre_pooled_columns_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pooled_columns_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_pooled_columns_finite [hKernel5Ideal : Cert.Kernel5Ideal.Facts] [hReference5Ideal : Cert.Reference5Ideal.Facts] [hPre_pooled_columns_finite : Cert.Pre_pooled_columns_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pooled_columns_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_pooled_columns_finite : Cert.Pre_pooled_columns_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pooled_columns_finite (hKernel5Ideal := hKernel5Ideal) (hPre_pooled_columns_finite := hPre_pooled_columns_finite)
    ∧ quiescent_Reference5Ideal (hReference5Ideal := hReference5Ideal)
    ∧ quiescent_Reference5Ideal_pre_pooled_columns_finite (hReference5Ideal := hReference5Ideal) (hPre_pooled_columns_finite := hPre_pooled_columns_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pooled_columns_finite (hKernel5Ideal := hKernel5Ideal) (hReference5Ideal := hReference5Ideal) (hPre_pooled_columns_finite := hPre_pooled_columns_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_pooled_columns_finite.lean ====
abbrev S8208x22528 : Shape := ⟨2, ![8208, 22528]⟩
abbrev S8208x8192 : Shape := ⟨2, ![8208, 8192]⟩
abbrev S4x1024x1024 : Shape := ⟨3, ![4, 1024, 1024]⟩
abbrev S4096 : Shape := ⟨1, ![4096]⟩
abbrev S8208x4096 : Shape := ⟨2, ![8208, 4096]⟩
abbrev S_ : Shape := ⟨0, ![]⟩

class Facts : Prop where
  slices_S8208x22528_S8208x4096_0_0 : S8208x22528.Slices ![0, 0] S8208x4096
  bitsLt_bf16_f32 : FTy.bits .bf16 < FTy.bits .f32
  bcast_S_S8208x4096 : S_.BroadcastsInDim S8208x4096 (![] : Fin 0 → Fin S8208x4096.rank)
  reducesTo_S8208x4096_S_d0_1 : S8208x4096.ReducesTo [0, 1] S_
  h_S_ : 0 < S_.numel

variable [Facts]

def fn {F : FTy → Type} [FloatOps F] (main_arg0 : FVec F S8208x22528 .bf16) (main_arg1 : FVec F S8208x8192 .bf16) (main_arg2 : FVec F S4x1024x1024 .f32) (main_arg3 : FVec F S4096 .f32) : IVec S_ 1 :=
  let main_v0 : FVec F S8208x4096 .bf16 := (extractStridedSlice S8208x4096 ![0, 0] · slices_S8208x22528_S8208x4096_0_0) main_arg0
  let main_v1 : FVec F S8208x4096 .f32 := (extf .f32 · bitsLt_bf16_f32) main_v0
  let main_v2 : FVec F S8208x4096 .f32 := Host.absf main_v1
  let main_cst : FVec F S_ .f32 := constant S_ .f32 0x7F800000#32
  let main_v3 : FVec F S8208x4096 .f32 := broadcastInDim S8208x4096 ![] bcast_S_S8208x4096 main_cst
  let main_v4 : IVec S8208x4096 1 := cmpf .olt main_v2 main_v3
  let main_c : IVec S_ 1 := constantI S_ 1 1#1
  let main_v5 : IVec S_ 1 := (fun x v => Host.reduce IntOp.andi x v reducesTo_S8208x4096_S_d0_1 h_S_) main_v4 main_c
  main_v5
-- ==== Kernel.lean ====
abbrev S8208x4096 : Shape := ⟨2, ![8208, 4096]⟩
abbrev S4096x30848 : Shape := ⟨2, ![4096, 30848]⟩
abbrev S_ : Shape := ⟨0, ![]⟩
abbrev S8320x4096 : Shape := ⟨2, ![8320, 4096]⟩
abbrev S8320x8192 : Shape := ⟨2, ![8320, 8192]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S_, .i32⟩
  | .hbm, ⟨3, _⟩ => ⟨S_, .bf16⟩
  | .hbm, ⟨4, _⟩ => ⟨S8320x4096, .bf16⟩
  | .hbm, ⟨5, _⟩ => ⟨S8320x8192, .bf16⟩
  | .local _ .vmem, ⟨0, _⟩ => ⟨S1664x2048, .bf16⟩
  | .local _ .vmem, ⟨1, _⟩ => ⟨S1664x2048, .bf16⟩
  | .local _ .vmem, ⟨2, _⟩ => ⟨S2048x1024, .f32⟩
  | .local _ .vmem, ⟨3, _⟩ => ⟨S2048x1024, .f32⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8208x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 2], ![false, false, false]⟩

def k0_mult1 (i : grid0.Coords) : BitVec 32 :=
  let c22656_i32 : BitVec 32 := 22656#32
  let arg1 : BitVec 32 := BitVec.ofNat 32 (i 1).val
  let c1024_i32 : BitVec 32 := 1024#32
  let v1 : BitVec 32 := Scalar.muli arg1 c1024_i32
  let v2 : BitVec 32 := Scalar.addi c22656_i32 v1
  v2
def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let c1024_i32 : BitVec 32 := 1024#32
  let v1 : BitVec 32 := Scalar.muli arg1 c1024_i32
  let c22656_i32 : BitVec 32 := 22656#32
  let v2 : BitVec 32 := Scalar.addi c22656_i32 v1
  let v3 : BitVec 32 := v2
  let c0_i32 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S8208x4096 : Shape := ⟨2, ![8208, 4096]⟩
abbrev S4096x30848 : Shape := ⟨2, ![4096, 30848]⟩
abbrev S_ : Shape := ⟨0, ![]⟩
abbrev S8320x4096 : Shape := ⟨2, ![8320, 4096]⟩
abbrev S4096x8192 : Shape := ⟨2, ![4096, 8192]⟩
abbrev S8320x8192 : Shape := ⟨2, ![8320, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S8208x4096, .f32⟩
  | .hbm, ⟨3, _⟩ => ⟨S_, .i32⟩
  | .hbm, ⟨4, _⟩ => ⟨S_, .f32⟩
  | .hbm, ⟨5, _⟩ => ⟨S8320x4096, .f32⟩
  | .hbm, ⟨6, _⟩ => ⟨S4096x8192, .f32⟩
  | .hbm, ⟨7, _⟩ => ⟨S8320x8192, .f32⟩
  | .hbm, ⟨8, _⟩ => ⟨S8320x8192, .f32⟩
  | .hbm, ⟨9, _⟩ => ⟨S8320x8192, .f32⟩
  | .hbm, ⟨10, _⟩ => ⟨S_, .f32⟩
  | .hbm, ⟨11, _⟩ => ⟨S8320x8192, .f32⟩
  | .hbm, ⟨12, _⟩ => ⟨S8320x8192, .f32⟩
  | .hbm, ⟨13, _⟩ => ⟨S_, .f32⟩
  | .hbm, ⟨14, _⟩ => ⟨S8320x8192, .f32⟩
  | .hbm, ⟨15, _⟩ => ⟨S8320x8192, .f32⟩
  | .hbm, ⟨16, _⟩ => ⟨S8320x8192, .bf16⟩
  | _, _ => ⟨S8208x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel2.lean ====
abbrev S8208x4096 : Shape := ⟨2, ![8208, 4096]⟩
abbrev S4096x30848 : Shape := ⟨2, ![4096, 30848]⟩
abbrev S_ : Shape := ⟨0, ![]⟩
abbrev S8320x4096 : Shape := ⟨2, ![8320, 4096]⟩
abbrev S8320x22528 : Shape := ⟨2, ![8320, 22528]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S_, .i32⟩
  | .hbm, ⟨3, _⟩ => ⟨S_, .bf16⟩
  | .hbm, ⟨4, _⟩ => ⟨S8320x4096, .bf16⟩
  | .hbm, ⟨5, _⟩ => ⟨S8320x22528, .bf16⟩
  | .local _ .vmem, ⟨0, _⟩ => ⟨S1664x2048, .bf16⟩
  | .local _ .vmem, ⟨1, _⟩ => ⟨S1664x2048, .bf16⟩
  | .local _ .vmem, ⟨2, _⟩ => ⟨S2048x1024, .f32⟩
  | .local _ .vmem, ⟨3, _⟩ => ⟨S2048x1024, .f32⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8208x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 22, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8208x4096 : Shape := ⟨2, ![8208, 4096]⟩
abbrev S4096x30848 : Shape := ⟨2, ![4096, 30848]⟩
abbrev S_ : Shape := ⟨0, ![]⟩
abbrev S8320x4096 : Shape := ⟨2, ![8320, 4096]⟩
abbrev S4096x22528 : Shape := ⟨2, ![4096, 22528]⟩
abbrev S8320x22528 : Shape := ⟨2, ![8320, 22528]⟩

abbrev nBuf : Space → Nat
  | .hbm => 9
  | .vmem => 0
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S8208x4096, .f32⟩
  | .hbm, ⟨3, _⟩ => ⟨S_, .i32⟩
  | .hbm, ⟨4, _⟩ => ⟨S_, .f32⟩
  | .hbm, ⟨5, _⟩ => ⟨S8320x4096, .f32⟩
  | .hbm, ⟨6, _⟩ => ⟨S4096x22528, .f32⟩
  | .hbm, ⟨7, _⟩ => ⟨S8320x22528, .f32⟩
  | .hbm, ⟨8, _⟩ => ⟨S8320x22528, .bf16⟩
  | _, _ => ⟨S8208x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S8208x4096 : Shape := ⟨2, ![8208, 4096]⟩
abbrev S4096x4096 : Shape := ⟨2, ![4096, 4096]⟩
abbrev S16x4096 : Shape := ⟨2, ![16, 4096]⟩
abbrev S8192x4096 : Shape := ⟨2, ![8192, 4096]⟩
abbrev S_ : Shape := ⟨0, ![]⟩
abbrev S112x4096 : Shape := ⟨2, ![112, 4096]⟩
abbrev S128x4096 : Shape := ⟨2, ![128, 4096]⟩
abbrev S8320x4096 : Shape := ⟨2, ![8320, 4096]⟩
abbrev S1664x1024 : Shape := ⟨2, ![1664, 1024]⟩
abbrev S1024x1024 : Shape := ⟨2, ![1024, 1024]⟩
abbrev S128x1024 : Shape := ⟨2, ![128, 1024]⟩
abbrev S1536x1024 : Shape := ⟨2, ![1536, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8208x4096, .bf16⟩
  | .hbm, ⟨1, _⟩ => ⟨S4096x4096, .f32⟩
  | .hbm, ⟨2, _⟩ => ⟨S16x4096, .f32⟩
  | .hbm, ⟨3, _⟩ => ⟨S8192x4096, .f32⟩
  | .hbm, ⟨4, _⟩ => ⟨S_, .f32⟩
  | .hbm, ⟨5, _⟩ => ⟨S112x4096, .f32⟩
  | .hbm, ⟨6, _⟩ => ⟨S128x4096, .f32⟩
  | .hbm, ⟨7, _⟩ => ⟨S_, .i32⟩
  | .hbm, ⟨8, _⟩ => ⟨S_, .bf16⟩
  | .hbm, ⟨9, _⟩ => ⟨S8320x4096, .bf16⟩
  | .hbm, ⟨10, _⟩ => ⟨S8320x4096, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .f32⟩
  | .local _ .vmem, ⟨3, _⟩ => ⟨S1024x1024, .f32⟩
  | .local _ .vmem, ⟨4, _⟩ => ⟨S128x1024, .f32⟩
  | .local _ .vmem, ⟨5, _⟩ => ⟨S128x1024, .f32⟩
  | .local _ .vmem, ⟨6, _⟩ => ⟨S1664x1024, .f32⟩
  | .local _ .vmem, ⟨7, _⟩ => ⟨S1664x1024, .f32⟩
  | .local _ .vmem, ⟨8, _⟩ => ⟨S1664x1024, .f32⟩
  | .local _ .vmem, ⟨9, _⟩ => ⟨S1664x1024, .f32⟩
  | .local _ .vmem, ⟨10, _⟩ => ⟨S1664x1024, .f32⟩
  | _, _ => ⟨S8208x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![5, 4, 4], ![false, false, false]⟩

def k0_mult1 (i : grid0.Coords) : BitVec 32 :=
  let arg0 : BitVec 32 := BitVec.ofNat 32 (i 0).val
  let c1664_i32 : BitVec 32 := 1664#32
  let v0 : BitVec 32 := Scalar.muli arg0 c1664_i32
  let c128_i32 : BitVec 32 := 128#32
  let v1 : BitVec 32 := Scalar.subi v0 c128_i32
  let c0_i32 : BitVec 32 := 0#32
  let v2 : BitVec 32 := Scalar.maxsi v1 c0_i32
  v2
def k0_mult2 (i : grid0.Coords) : BitVec 32 :=
  let arg1 : BitVec 32 := BitVec.ofNat 32 (i 1).val
  let c1024_i32 : BitVec 32 := 1024#32
  let v4 : BitVec 32 := Scalar.muli arg1 c1024_i32
  v4
def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_cond5 (i : grid0.Coords) : BitVec 1 :=
  let arg0 : BitVec 32 := BitVec.ofNat 32 (i 0).val
  let c0_i32_12 : BitVec 32 := 0#32
  let v21 : BitVec 1 := Scalar.cmpi .sgt arg0 c0_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1664_i32 : BitVec 32 := 1664#32
  let v0 : BitVec 32 := Scalar.muli arg0 c1664_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c1024_i32 : BitVec 32 := 1024#32
  let v4 : BitVec 32 := Scalar.muli arg1 c1024_i32
  let v5 : BitVec 32 := v4
  let c0_i32_0 : BitVec 32 := 0#32
  ![v3.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1664x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8208x4096 : Shape := ⟨2, ![8208, 4096]⟩
abbrev S4096x4096 : Shape := ⟨2, ![4096, 4096]⟩
abbrev S16x4096 : Shape := ⟨2, ![16, 4096]⟩
abbrev S8192x4096 : Shape := ⟨2, ![8192, 4096]⟩
abbrev S_ : Shape := ⟨0, ![]⟩
abbrev S8320x4096 : Shape := ⟨2, ![8320, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8208x4096, .bf16⟩
  | .hbm, ⟨1, _⟩ => ⟨S4096x4096, .f32⟩
  | .hbm, ⟨2, _⟩ => ⟨S16x4096, .f32⟩
  | .hbm, ⟨3, _⟩ => ⟨S8192x4096, .f32⟩
  | .hbm, ⟨4, _⟩ => ⟨S8208x4096, .f32⟩
  | .hbm, ⟨5, _⟩ => ⟨S8208x4096, .f32⟩
  | .hbm, ⟨6, _⟩ => ⟨S8208x4096, .f32⟩
  | .hbm, ⟨7, _⟩ => ⟨S8208x4096, .f32⟩
  | .hbm, ⟨8, _⟩ => ⟨S_, .i32⟩
  | .hbm, ⟨9, _⟩ => ⟨S_, .f32⟩
  | .hbm, ⟨10, _⟩ => ⟨S8320x4096, .f32⟩
  | _, _ => ⟨S8208x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel4.lean ====
abbrev S8208x8192 : Shape := ⟨2, ![8208, 8192]⟩
abbrev S8192 : Shape := ⟨1, ![8192]⟩
abbrev S8192x4096 : Shape := ⟨2, ![8192, 4096]⟩
abbrev S8208x4096 : Shape := ⟨2, ![8208, 4096]⟩
abbrev S1x8192 : Shape := ⟨2, ![1, 8192]⟩
abbrev S_ : Shape := ⟨0, ![]⟩
abbrev S8208 : Shape := ⟨1, ![8208]⟩
abbrev S8208x1 : Shape := ⟨2, ![8208, 1]⟩
abbrev S8208x128 : Shape := ⟨2, ![8208, 128]⟩
abbrev S8320x8192 : Shape := ⟨2, ![8320, 8192]⟩
abbrev S8320x128 : Shape := ⟨2, ![8320, 128]⟩
abbrev S8320x4096 : Shape := ⟨2, ![8320, 4096]⟩
abbrev S1664x1024 : Shape := ⟨2, ![1664, 1024]⟩
abbrev S1024x1024 : Shape := ⟨2, ![1024, 1024]⟩
abbrev S1664x128 : Shape := ⟨2, ![1664, 128]⟩
abbrev S1664x1 : Shape := ⟨2, ![1664, 1]⟩

abbrev nBuf : Space → Nat
  | .hbm => 27
  | .vmem => 13
  | .smem => 0
  | _ => 0

abbrev bufTy : (tb : Table) → Fin (tcTables nBuf tb) → BufTy
  | .hbm, ⟨0, _⟩ => ⟨S8208x8192, .f32⟩
  | .hbm, ⟨1, _⟩ => ⟨S8192, .f32⟩
  | .hbm, ⟨2, _⟩ => ⟨S8192x4096, .f32⟩
  | .hbm, ⟨3, _⟩ => ⟨S8208x4096, .bf16⟩
  | .hbm, ⟨4, _⟩ => ⟨S8208x8192, .bf16⟩
  | .hbm, ⟨5, _⟩ => ⟨S1x8192, .f32⟩
  | .hbm, ⟨6, _⟩ => ⟨S8208x8192, .f32⟩
  | .hbm, ⟨7, _⟩ => ⟨S8208x8192, .f32⟩
  | .hbm, ⟨8, _⟩ => ⟨S8208x8192, .bf16⟩
  | .hbm, ⟨9, _⟩ => ⟨S8208x8192, .f32⟩
  | .hbm, ⟨10, _⟩ => ⟨S_, .f32⟩
  | .hbm, ⟨11, _⟩ => ⟨S8208, .f32⟩
  | .hbm, ⟨12, _⟩ => ⟨S8208x1, .f32⟩
  | .hbm, ⟨13, _⟩ => ⟨S8208x128, .f32⟩
  | .hbm, ⟨14, _⟩ => ⟨S_, .i32⟩
  | .hbm, ⟨15, _⟩ => ⟨S_, .bf16⟩
  | .hbm, ⟨16, _⟩ => ⟨S8320x8192, .bf16⟩
  | .hbm, ⟨17, _⟩ => ⟨S_, .i32⟩
  | .hbm, ⟨18, _⟩ => ⟨S_, .f32⟩
  | .hbm, ⟨19, _⟩ => ⟨S8320x128, .f32⟩
  | .hbm, ⟨20, _⟩ => ⟨S_, .i32⟩
  | .hbm, ⟨21, _⟩ => ⟨S_, .bf16⟩
  | .hbm, ⟨22, _⟩ => ⟨S8320x4096, .bf16⟩
  | .hbm, ⟨23, _⟩ => ⟨S_, .i32⟩
  | .hbm, ⟨24, _⟩ => ⟨S_, .bf16⟩
  | .hbm, ⟨25, _⟩ => ⟨S8320x8192, .bf16⟩
  | .hbm, ⟨26, _⟩ => ⟨S8320x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1024, .f32⟩
  | .local _ .vmem, ⟨3, _⟩ => ⟨S1024x1024, .f32⟩
  | .local _ .vmem, ⟨4, _⟩ => ⟨S1664x128, .f32⟩
  | .local _ .vmem, ⟨5, _⟩ => ⟨S1664x128, .f32⟩
  | .local _ .vmem, ⟨6, _⟩ => ⟨S1664x1024, .bf16⟩
  | .local _ .vmem, ⟨7, _⟩ => ⟨S1664x1024, .bf16⟩
  | .local _ .vmem, ⟨8, _⟩ => ⟨S1664x1024, .bf16⟩
  | .local _ .vmem, ⟨9, _⟩ => ⟨S1664x1024, .bf16⟩
  | .local _ .vmem, ⟨10, _⟩ => ⟨S1664x1024, .bf16⟩
  | .local _ .vmem, ⟨11, _⟩ => ⟨S1664x1024, .bf16⟩
  | .local _ .vmem, ⟨12, _⟩ => ⟨S1664x1024, .f32⟩
  | _, _ => ⟨S8208x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![5, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1664x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1664x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8208x8192 : Shape := ⟨2, ![8208, 8192]⟩
abbrev S8192 : Shape := ⟨1, ![8192]⟩
abbrev S8192x4096 : Shape := ⟨2, ![8192, 4096]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x8192 : Shape := ⟨2, ![1, 8192]⟩
abbrev S8320x4096 : Shape := ⟨2, ![8320, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8208x8192, .f32⟩
  | .hbm, ⟨1, _⟩ => ⟨S8192, .f32⟩
  | .hbm, ⟨2, _⟩ => ⟨S8192x4096, .f32⟩
  | .hbm, ⟨3, _⟩ => ⟨S8208x4096, .bf16⟩
  | .hbm, ⟨4, _⟩ => ⟨S8208x8192, .bf16⟩
  | .hbm, ⟨5, _⟩ => ⟨S8208x8192, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x8192, .f32⟩
  | .hbm, ⟨17, _⟩ => ⟨S8208x8192, .f32⟩
  | .hbm, ⟨18, _⟩ => ⟨S1x8192, .f32⟩
  | .hbm, ⟨19, _⟩ => ⟨S8208x8192, .f32⟩
  | .hbm, ⟨20, _⟩ => ⟨S8208x8192, .f32⟩
  | .hbm, ⟨21, _⟩ => ⟨S8208x4096, .f32⟩
  | .hbm, ⟨22, _⟩ => ⟨S8208x4096, .f32⟩
  | .hbm, ⟨23, _⟩ => ⟨S8208x4096, .bf16⟩
  | .hbm, ⟨24, _⟩ => ⟨S8208x4096, .f32⟩
  | .hbm, ⟨25, _⟩ => ⟨S8208x4096, .f32⟩
  | .hbm, ⟨26, _⟩ => ⟨S8208x4096, .f32⟩
  | .hbm, ⟨27, _⟩ => ⟨S_, .i32⟩
  | .hbm, ⟨28, _⟩ => ⟨S_, .f32⟩
  | .hbm, ⟨29, _⟩ => ⟨S8320x4096, .f32⟩
  | .hbm, ⟨30, _⟩ => ⟨S8320x4096, .bf16⟩
  | _, _ => ⟨S8208x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel5.lean ====
abbrev S8208x22528 : Shape := ⟨2, ![8208, 22528]⟩
abbrev S8208x8192 : Shape := ⟨2, ![8208, 8192]⟩
abbrev S4x1024x1024 : Shape := ⟨3, ![4, 1024, 1024]⟩
abbrev S4096 : Shape := ⟨1, ![4096]⟩
abbrev S_ : Shape := ⟨0, ![]⟩
abbrev S8320x22528 : Shape := ⟨2, ![8320, 22528]⟩
abbrev S8320x8192 : Shape := ⟨2, ![8320, 8192]⟩
abbrev S1x4096 : Shape := ⟨2, ![1, 4096]⟩
abbrev S8320x4096 : Shape := ⟨2, ![8320, 4096]⟩
abbrev S1664x1024 : Shape := ⟨2, ![1664, 1024]⟩
abbrev S32x1024 : Shape := ⟨2, ![32, 1024]⟩
abbrev S1x1024x1024 : Shape := ⟨3, ![1, 1024, 1024]⟩
abbrev S1x1024 : Shape := ⟨2, ![1, 1024]⟩
abbrev S1696x1024 : Shape := ⟨2, ![1696, 1024]⟩
abbrev S1664x1 : Shape := ⟨2, ![1664, 1]⟩
abbrev S1688x1024 : Shape := ⟨2, ![1688, 1024]⟩
abbrev S1680x1024 : Shape := ⟨2, ![1680, 1024]⟩
abbrev S1672x1024 : Shape := ⟨2, ![1672, 1024]⟩
abbrev S1024x1024 : Shape := ⟨2, ![1024, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8208x22528, .bf16⟩
  | .hbm, ⟨1, _⟩ => ⟨S8208x8192, .bf16⟩
  | .hbm, ⟨2, _⟩ => ⟨S4x1024x1024, .f32⟩
  | .hbm, ⟨3, _⟩ => ⟨S4096, .f32⟩
  | .hbm, ⟨4, _⟩ => ⟨S_, .i32⟩
  | .hbm, ⟨5, _⟩ => ⟨S_, .bf16⟩
  | .hbm, ⟨6, _⟩ => ⟨S8320x22528, .bf16⟩
  | .hbm, ⟨7, _⟩ => ⟨S_, .i32⟩
  | .hbm, ⟨8, _⟩ => ⟨S_, .bf16⟩
  | .hbm, ⟨9, _⟩ => ⟨S8320x8192, .bf16⟩
  | .hbm, ⟨10, _⟩ => ⟨S1x4096, .f32⟩
  | .hbm, ⟨11, _⟩ => ⟨S8320x4096, .bf16⟩
  | .local _ .vmem, ⟨0, _⟩ => ⟨S1664x1024, .bf16⟩
  | .local _ .vmem, ⟨1, _⟩ => ⟨S1664x1024, .bf16⟩
  | .local _ .vmem, ⟨2, _⟩ => ⟨S32x1024, .bf16⟩
  | .local _ .vmem, ⟨3, _⟩ => ⟨S32x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S1x1024, .f32⟩
  | .local _ .vmem, ⟨8, _⟩ => ⟨S1664x1024, .bf16⟩
  | .local _ .vmem, ⟨9, _⟩ => ⟨S1664x1024, .bf16⟩
  | .local _ .vmem, ⟨10, _⟩ => ⟨S1664x1024, .bf16⟩
  | .local _ .vmem, ⟨11, _⟩ => ⟨S1664x1024, .bf16⟩
  | .local _ .vmem, ⟨12, _⟩ => ⟨S1696x1024, .f32⟩
  | .local _ .vmem, ⟨13, _⟩ => ⟨S1696x1024, .f32⟩
  | .local _ .vmem, ⟨14, _⟩ => ⟨S1664x1024, .bf16⟩
  | _, _ => ⟨S8208x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.muli arg1 c52_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1664x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1664x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8208x22528 : Shape := ⟨2, ![8208, 22528]⟩
abbrev S8208x8192 : Shape := ⟨2, ![8208, 8192]⟩
abbrev S4x1024x1024 : Shape := ⟨3, ![4, 1024, 1024]⟩
abbrev S4096 : Shape := ⟨1, ![4096]⟩
abbrev S8208x4096 : Shape := ⟨2, ![8208, 4096]⟩
abbrev S_ : Shape := ⟨0, ![]⟩
abbrev S8208 : Shape := ⟨1, ![8208]⟩
abbrev S8208x1024 : Shape := ⟨2, ![8208, 1024]⟩
abbrev S8210x1024 : Shape := ⟨2, ![8210, 1024]⟩
abbrev S8208x1 : Shape := ⟨2, ![8208, 1]⟩
abbrev S1x1024x1024 : Shape := ⟨3, ![1, 1024, 1024]⟩
abbrev S1024x1024 : Shape := ⟨2, ![1024, 1024]⟩
abbrev S8212x1024 : Shape := ⟨2, ![8212, 1024]⟩
abbrev S8216x1024 : Shape := ⟨2, ![8216, 1024]⟩
abbrev S8224x1024 : Shape := ⟨2, ![8224, 1024]⟩
abbrev S1x4096 : Shape := ⟨2, ![1, 4096]⟩
abbrev S8320x4096 : Shape := ⟨2, ![8320, 4096]⟩

abbrev nBuf : Space → Nat
  | .hbm => 109
  | .vmem => 0
  | .smem => 0
  | _ => 0

abbrev bufTy : (tb : Table) → Fin (tcTables nBuf tb) → BufTy
  | .hbm, ⟨0, _⟩ => ⟨S8208x22528, .bf16⟩
  | .hbm, ⟨1, _⟩ => ⟨S8208x8192, .bf16⟩
  | .hbm, ⟨2, _⟩ => ⟨S4x1024x1024, .f32⟩
  | .hbm, ⟨3, _⟩ => ⟨S4096, .f32⟩
  | .hbm, ⟨4, _⟩ => ⟨S8208x4096, .bf16⟩
  | .hbm, ⟨5, _⟩ => ⟨S8208x4096, .f32⟩
  | .hbm, ⟨6, _⟩ => ⟨S_, .f32⟩
  | .hbm, ⟨7, _⟩ => ⟨S_, .f32⟩
  | .hbm, ⟨8, _⟩ => ⟨S8208x4096, .f32⟩
  | .hbm, ⟨9, _⟩ => ⟨S8208, .i32⟩
  | .hbm, ⟨10, _⟩ => ⟨S8208x1024, .f32⟩
  | .hbm, ⟨11, _⟩ => ⟨S_, .i32⟩
  | .hbm, ⟨12, _⟩ => ⟨S_, .f32⟩
  | .hbm, ⟨13, _⟩ => ⟨S8210x1024, .f32⟩
  | .hbm, ⟨14, _⟩ => ⟨S8208x1024, .f32⟩
  | .hbm, ⟨15, _⟩ => ⟨S_, .i32⟩
  | .hbm, ⟨16, _⟩ => ⟨S8208, .i32⟩
  | .hbm, ⟨17, _⟩ => ⟨S8208, .i32⟩
  | .hbm, ⟨18, _⟩ => ⟨S_, .i32⟩
  | .hbm, ⟨19, _⟩ => ⟨S8208, .i32⟩
  | .hbm, ⟨20, _⟩ => ⟨S8208, .i32⟩
  | .hbm, ⟨21, _⟩ => ⟨S8208, .f32⟩
  | .hbm, ⟨22, _⟩ => ⟨S8208x1024, .f32⟩
  | .hbm, ⟨23, _⟩ => ⟨S8208x1024, .f32⟩
  | .hbm, ⟨24, _⟩ => ⟨S8208x1, .f32⟩
  | .hbm, ⟨25, _⟩ => ⟨S8208x1024, .f32⟩
  | .hbm, ⟨26, _⟩ => ⟨S8208x1024, .f32⟩
  | .hbm, ⟨27, _⟩ => ⟨S8208x1024, .f32⟩
  | .hbm, ⟨28, _⟩ => ⟨S8208x1024, .f32⟩
  | .hbm, ⟨29, _⟩ => ⟨S1x1024x1024, .f32⟩
  | .hbm, ⟨30, _⟩ => ⟨S1024x1024, .f32⟩
  | .hbm, ⟨31, _⟩ => ⟨S8208x1024, .f32⟩
  | .hbm, ⟨32, _⟩ => ⟨S8208x1024, .f32⟩
  | .hbm, ⟨33, _⟩ => ⟨S_, .i32⟩
  | .hbm, ⟨34, _⟩ => ⟨S_, .f32⟩
  | .hbm, ⟨35, _⟩ => ⟨S8212x1024, .f32⟩
  | .hbm, ⟨36, _⟩ => ⟨S8208x1024, .f32⟩
  | .hbm, ⟨37, _⟩ => ⟨S_, .i32⟩
  | .hbm, ⟨38, _⟩ => ⟨S8208, .i32⟩
  | .hbm, ⟨39, _⟩ => ⟨S8208, .i32⟩
  | .hbm, ⟨40, _⟩ => ⟨S_, .i32⟩
  | .hbm, ⟨41, _⟩ => ⟨S8208, .i32⟩
  | .hbm, ⟨42, _⟩ => ⟨S8208, .i32⟩
  | .hbm, ⟨43, _⟩ => ⟨S8208, .f32⟩
  | .hbm, ⟨44, _⟩ => ⟨S8208x1024, .f32⟩
  | .hbm, ⟨45, _⟩ => ⟨S8208x1024, .f32⟩
  | .hbm, ⟨46, _⟩ => ⟨S8208x1, .f32⟩
  | .hbm, ⟨47, _⟩ => ⟨S8208x1024, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S1x1024x1024, .f32⟩
  | .hbm, ⟨52, _⟩ => ⟨S1024x1024, .f32⟩
  | .hbm, ⟨53, _⟩ => ⟨S8208x1024, .f32⟩
  | .hbm, ⟨54, _⟩ => ⟨S8208x1024, .f32⟩
  | .hbm, ⟨55, _⟩ => ⟨S_, .i32⟩
  | .hbm, ⟨56, _⟩ => ⟨S_, .f32⟩
  | .hbm, ⟨57, _⟩ => ⟨S8216x1024, .f32⟩
  | .hbm, ⟨58, _⟩ => ⟨S8208x1024, .f32⟩
  | .hbm, ⟨59, _⟩ => ⟨S_, .i32⟩
  | .hbm, ⟨60, _⟩ => ⟨S8208, .i32⟩
  | .hbm, ⟨61, _⟩ => ⟨S8208, .i32⟩
  | .hbm, ⟨62, _⟩ => ⟨S_, .i32⟩
  | .hbm, ⟨63, _⟩ => ⟨S8208, .i32⟩
  | .hbm, ⟨64, _⟩ => ⟨S8208, .i32⟩
  | .hbm, ⟨65, _⟩ => ⟨S8208, .f32⟩
  | .hbm, ⟨66, _⟩ => ⟨S8208x1024, .f32⟩
  | .hbm, ⟨67, _⟩ => ⟨S8208x1024, .f32⟩
  | .hbm, ⟨68, _⟩ => ⟨S8208x1, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S1x1024x1024, .f32⟩
  | .hbm, ⟨74, _⟩ => ⟨S1024x1024, .f32⟩
  | .hbm, ⟨75, _⟩ => ⟨S8208x1024, .f32⟩
  | .hbm, ⟨76, _⟩ => ⟨S8208x1024, .f32⟩
  | .hbm, ⟨77, _⟩ => ⟨S_, .i32⟩
  | .hbm, ⟨78, _⟩ => ⟨S_, .f32⟩
  | .hbm, ⟨79, _⟩ => ⟨S8224x1024, .f32⟩
  | .hbm, ⟨80, _⟩ => ⟨S8208x1024, .f32⟩
  | .hbm, ⟨81, _⟩ => ⟨S_, .i32⟩
  | .hbm, ⟨82, _⟩ => ⟨S8208, .i32⟩
  | .hbm, ⟨83, _⟩ => ⟨S8208, .i32⟩
  | .hbm, ⟨84, _⟩ => ⟨S_, .i32⟩
  | .hbm, ⟨85, _⟩ => ⟨S8208, .i32⟩
  | .hbm, ⟨86, _⟩ => ⟨S8208, .i32⟩
  | .hbm, ⟨87, _⟩ => ⟨S8208, .f32⟩
  | .hbm, ⟨88, _⟩ => ⟨S8208x1024, .f32⟩
  | .hbm, ⟨89, _⟩ => ⟨S8208x1024, .f32⟩
  | .hbm, ⟨90, _⟩ => ⟨S8208x1, .f32⟩
  | .hbm, ⟨91, _⟩ => ⟨S8208x1024, .f32⟩
  | .hbm, ⟨92, _⟩ => ⟨S8208x1024, .f32⟩
  | .hbm, ⟨93, _⟩ => ⟨S8208x1024, .f32⟩
  | .hbm, ⟨94, _⟩ => ⟨S8208x1024, .f32⟩
  | .hbm, ⟨95, _⟩ => ⟨S1x1024x1024, .f32⟩
  | .hbm, ⟨96, _⟩ => ⟨S1024x1024, .f32⟩
  | .hbm, ⟨97, _⟩ => ⟨S8208x1024, .f32⟩
  | .hbm, ⟨98, _⟩ => ⟨S8208x4096, .f32⟩
  | .hbm, ⟨99, _⟩ => ⟨S1x4096, .f32⟩
  | .hbm, ⟨100, _⟩ => ⟨S8208x4096, .f32⟩
  | .hbm, ⟨101, _⟩ => ⟨S8208x4096, .f32⟩
  | .hbm, ⟨102, _⟩ => ⟨S8208x4096, .bf16⟩
  | .hbm, ⟨103, _⟩ => ⟨S8208x4096, .f32⟩
  | .hbm, ⟨104, _⟩ => ⟨S8208x4096, .f32⟩
  | .hbm, ⟨105, _⟩ => ⟨S_, .i32⟩
  | .hbm, ⟨106, _⟩ => ⟨S_, .f32⟩
  | .hbm, ⟨107, _⟩ => ⟨S8320x4096, .f32⟩
  | .hbm, ⟨108, _⟩ => ⟨S8320x4096, .bf16⟩
  | _, _ => ⟨S8208x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_call3_v0 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_call4_v0 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_11 : Ref sig .tc := ⟨.hbm, 105, rfl⟩
abbrev main_call5_v0 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel6.lean ====
abbrev S8192x4096 : Shape := ⟨2, ![8192, 4096]⟩
abbrev S16x4096 : Shape := ⟨2, ![16, 4096]⟩
abbrev S4096 : Shape := ⟨1, ![4096]⟩
abbrev S_ : Shape := ⟨0, ![]⟩
abbrev S112x4096 : Shape := ⟨2, ![112, 4096]⟩
abbrev S128x4096 : Shape := ⟨2, ![128, 4096]⟩
abbrev S1x4096 : Shape := ⟨2, ![1, 4096]⟩
abbrev S8320x4096 : Shape := ⟨2, ![8320, 4096]⟩
abbrev S640x4096 : Shape := ⟨2, ![640, 4096]⟩
abbrev S128 : Shape := ⟨1, ![128]⟩
abbrev S128x1 : Shape := ⟨2, ![128, 1]⟩
abbrev S512x4096 : Shape := ⟨2, ![512, 4096]⟩
abbrev S512 : Shape := ⟨1, ![512]⟩
abbrev S512x1 : Shape := ⟨2, ![512, 1]⟩
abbrev S640 : Shape := ⟨1, ![640]⟩
abbrev S640x1 : Shape := ⟨2, ![640, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096, .f32⟩
  | .hbm, ⟨3, _⟩ => ⟨S_, .f32⟩
  | .hbm, ⟨4, _⟩ => ⟨S112x4096, .f32⟩
  | .hbm, ⟨5, _⟩ => ⟨S128x4096, .f32⟩
  | .hbm, ⟨6, _⟩ => ⟨S1x4096, .f32⟩
  | .hbm, ⟨7, _⟩ => ⟨S8320x4096, .bf16⟩
  | .local _ .vmem, ⟨0, _⟩ => ⟨S640x4096, .f32⟩
  | .local _ .vmem, ⟨1, _⟩ => ⟨S640x4096, .f32⟩
  | .local _ .vmem, ⟨2, _⟩ => ⟨S128x4096, .f32⟩
  | .local _ .vmem, ⟨3, _⟩ => ⟨S1x4096, .f32⟩
  | .local _ .vmem, ⟨4, _⟩ => ⟨S640x4096, .bf16⟩
  | .local _ .vmem, ⟨5, _⟩ => ⟨S640x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def k0_mult1 (i : grid0.Coords) : BitVec 32 :=
  let arg0 : BitVec 32 := BitVec.ofNat 32 (i 0).val
  let c640_i32 : BitVec 32 := 640#32
  let v0 : BitVec 32 := Scalar.muli arg0 c640_i32
  let c128_i32 : BitVec 32 := 128#32
  let v1 : BitVec 32 := Scalar.subi v0 c128_i32
  let c0_i32 : BitVec 32 := 0#32
  let v2 : BitVec 32 := Scalar.maxsi v1 c0_i32
  v2
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c640_i32 : BitVec 32 := 640#32
  let v0 : BitVec 32 := Scalar.muli arg0 c640_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x4096 : Shape := ⟨2, ![8192, 4096]⟩
abbrev S16x4096 : Shape := ⟨2, ![16, 4096]⟩
abbrev S4096 : Shape := ⟨1, ![4096]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x4096 : Shape := ⟨2, ![1, 4096]⟩
abbrev S8320x4096 : Shape := ⟨2, ![8320, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096, .f32⟩
  | .hbm, ⟨3, _⟩ => ⟨S8208x4096, .f32⟩
  | .hbm, ⟨4, _⟩ => ⟨S8208x4096, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x4096, .f32⟩
  | .hbm, ⟨16, _⟩ => ⟨S8208x4096, .f32⟩
  | .hbm, ⟨17, _⟩ => ⟨S1x4096, .f32⟩
  | .hbm, ⟨18, _⟩ => ⟨S8208x4096, .f32⟩
  | .hbm, ⟨19, _⟩ => ⟨S8208x4096, .f32⟩
  | .hbm, ⟨20, _⟩ => ⟨S_, .i32⟩
  | .hbm, ⟨21, _⟩ => ⟨S_, .f32⟩
  | .hbm, ⟨22, _⟩ => ⟨S8320x4096, .f32⟩
  | .hbm, ⟨23, _⟩ => ⟨S8320x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel7.lean ====
abbrev S8208x4096 : Shape := ⟨2, ![8208, 4096]⟩
abbrev S4096x30848 : Shape := ⟨2, ![4096, 30848]⟩
abbrev S128 : Shape := ⟨1, ![128]⟩
abbrev S_ : Shape := ⟨0, ![]⟩
abbrev S8320x4096 : Shape := ⟨2, ![8320, 4096]⟩
abbrev S1x128 : Shape := ⟨2, ![1, 128]⟩
abbrev S8320x128 : Shape := ⟨2, ![8320, 128]⟩
abbrev S1664x1024 : Shape := ⟨2, ![1664, 1024]⟩
abbrev S1024x128 : Shape := ⟨2, ![1024, 128]⟩
abbrev S1664x128 : Shape := ⟨2, ![1664, 128]⟩

abbrev nBuf : Space → Nat
  | .hbm => 8
  | .vmem => 8
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S128, .f32⟩
  | .hbm, ⟨3, _⟩ => ⟨S_, .i32⟩
  | .hbm, ⟨4, _⟩ => ⟨S_, .bf16⟩
  | .hbm, ⟨5, _⟩ => ⟨S8320x4096, .bf16⟩
  | .hbm, ⟨6, _⟩ => ⟨S1x128, .f32⟩
  | .hbm, ⟨7, _⟩ => ⟨S8320x128, .f32⟩
  | .local _ .vmem, ⟨0, _⟩ => ⟨S1664x1024, .bf16⟩
  | .local _ .vmem, ⟨1, _⟩ => ⟨S1664x1024, .bf16⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1664x128, .f32⟩
  | .local _ .vmem, ⟨6, _⟩ => ⟨S1664x128, .f32⟩
  | .local _ .vmem, ⟨7, _⟩ => ⟨S1664x128, .f32⟩
  | _, _ => ⟨S8208x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c176_i32 : BitVec 32 := 176#32
  let v0 : BitVec 32 := Scalar.addi arg1 c176_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1664x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8208x4096 : Shape := ⟨2, ![8208, 4096]⟩
abbrev S4096x30848 : Shape := ⟨2, ![4096, 30848]⟩
abbrev S128 : Shape := ⟨1, ![128]⟩
abbrev S_ : Shape := ⟨0, ![]⟩
abbrev S8320x4096 : Shape := ⟨2, ![8320, 4096]⟩
abbrev S4096x128 : Shape := ⟨2, ![4096, 128]⟩
abbrev S8320x128 : Shape := ⟨2, ![8320, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8208x4096, .bf16⟩
  | .hbm, ⟨1, _⟩ => ⟨S4096x30848, .f32⟩
  | .hbm, ⟨2, _⟩ => ⟨S128, .f32⟩
  | .hbm, ⟨3, _⟩ => ⟨S8208x4096, .f32⟩
  | .hbm, ⟨4, _⟩ => ⟨S_, .i32⟩
  | .hbm, ⟨5, _⟩ => ⟨S_, .f32⟩
  | .hbm, ⟨6, _⟩ => ⟨S8320x4096, .f32⟩
  | .hbm, ⟨7, _⟩ => ⟨S4096x128, .f32⟩
  | .hbm, ⟨8, _⟩ => ⟨S8320x128, .f32⟩
  | .hbm, ⟨9, _⟩ => ⟨S1x128, .f32⟩
  | .hbm, ⟨10, _⟩ => ⟨S8320x128, .f32⟩
  | .hbm, ⟨11, _⟩ => ⟨S8320x128, .f32⟩
  | .hbm, ⟨12, _⟩ => ⟨S_, .f32⟩
  | .hbm, ⟨13, _⟩ => ⟨S8320x128, .f32⟩
  | .hbm, ⟨14, _⟩ => ⟨S8320x128, .f32⟩
  | .hbm, ⟨15, _⟩ => ⟨S8320x128, .f32⟩
  | .hbm, ⟨16, _⟩ => ⟨S8320x128, .f32⟩
  | .hbm, ⟨17, _⟩ => ⟨S8320x128, .i1⟩
  | .hbm, ⟨18, _⟩ => ⟨S8320x128, .f32⟩
  | .hbm, ⟨19, _⟩ => ⟨S8320x128, .f32⟩
  | .hbm, ⟨20, _⟩ => ⟨S8320x128, .f32⟩
  | .hbm, ⟨21, _⟩ => ⟨S8320x128, .f32⟩
  | .hbm, ⟨22, _⟩ => ⟨S8320x128, .f32⟩
  | .hbm, ⟨23, _⟩ => ⟨S8320x128, .f32⟩
  | .hbm, ⟨24, _⟩ => ⟨S8320x128, .f32⟩
  | .hbm, ⟨25, _⟩ => ⟨S8320x128, .f32⟩
  | _, _ => ⟨S8208x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel8.lean ====
abbrev S8320x4096 : Shape := ⟨2, ![8320, 4096]⟩
abbrev S4096 : Shape := ⟨1, ![4096]⟩
abbrev S4096x32 : Shape := ⟨2, ![4096, 32]⟩
abbrev S32 : Shape := ⟨1, ![32]⟩
abbrev S1x4096 : Shape := ⟨2, ![1, 4096]⟩
abbrev S1x32 : Shape := ⟨2, ![1, 32]⟩
abbrev S8320x128 : Shape := ⟨2, ![8320, 128]⟩
abbrev S320x4096 : Shape := ⟨2, ![320, 4096]⟩
abbrev S320x128 : Shape := ⟨2, ![320, 128]⟩
abbrev S320 : Shape := ⟨1, ![320]⟩
abbrev S320x1 : Shape := ⟨2, ![320, 1]⟩
abbrev S320x32 : Shape := ⟨2, ![320, 32]⟩

abbrev nBuf : Space → Nat
  | .hbm => 9
  | .vmem => 11
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x32, .f32⟩
  | .hbm, ⟨3, _⟩ => ⟨S32, .f32⟩
  | .hbm, ⟨4, _⟩ => ⟨S1x4096, .f32⟩
  | .hbm, ⟨5, _⟩ => ⟨S1x32, .f32⟩
  | .hbm, ⟨6, _⟩ => ⟨S8320x4096, .f32⟩
  | .hbm, ⟨7, _⟩ => ⟨S8320x128, .i32⟩
  | .hbm, ⟨8, _⟩ => ⟨S8320x128, .f32⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S4096x32, .f32⟩
  | .local _ .vmem, ⟨4, _⟩ => ⟨S1x32, .f32⟩
  | .local _ .vmem, ⟨5, _⟩ => ⟨S320x4096, .f32⟩
  | .local _ .vmem, ⟨6, _⟩ => ⟨S320x4096, .f32⟩
  | .local _ .vmem, ⟨7, _⟩ => ⟨S320x128, .i32⟩
  | .local _ .vmem, ⟨8, _⟩ => ⟨S320x128, .i32⟩
  | .local _ .vmem, ⟨9, _⟩ => ⟨S320x128, .f32⟩
  | .local _ .vmem, ⟨10, _⟩ => ⟨S320x128, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8320x4096 : Shape := ⟨2, ![8320, 4096]⟩
abbrev S4096 : Shape := ⟨1, ![4096]⟩
abbrev S4096x32 : Shape := ⟨2, ![4096, 32]⟩
abbrev S32 : Shape := ⟨1, ![32]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x4096 : Shape := ⟨2, ![1, 4096]⟩
abbrev S8320x32 : Shape := ⟨2, ![8320, 32]⟩
abbrev S1x32 : Shape := ⟨2, ![1, 32]⟩
abbrev S8320x4 : Shape := ⟨2, ![8320, 4]⟩
abbrev S8320 : Shape := ⟨1, ![8320]⟩
abbrev S8320x1 : Shape := ⟨2, ![8320, 1]⟩
abbrev S8320x128 : Shape := ⟨2, ![8320, 128]⟩

abbrev nBuf : Space → Nat
  | .hbm => 47
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x32, .f32⟩
  | .hbm, ⟨3, _⟩ => ⟨S32, .f32⟩
  | .hbm, ⟨4, _⟩ => ⟨S8208x4096, .f32⟩
  | .hbm, ⟨5, _⟩ => ⟨S8208x4096, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x4096, .f32⟩
  | .hbm, ⟨17, _⟩ => ⟨S8208x4096, .f32⟩
  | .hbm, ⟨18, _⟩ => ⟨S1x4096, .f32⟩
  | .hbm, ⟨19, _⟩ => ⟨S8208x4096, .f32⟩
  | .hbm, ⟨20, _⟩ => ⟨S8208x4096, .f32⟩
  | .hbm, ⟨21, _⟩ => ⟨S_, .i32⟩
  | .hbm, ⟨22, _⟩ => ⟨S_, .f32⟩
  | .hbm, ⟨23, _⟩ => ⟨S8320x4096, .f32⟩
  | .hbm, ⟨24, _⟩ => ⟨S8320x32, .f32⟩
  | .hbm, ⟨25, _⟩ => ⟨S1x32, .f32⟩
  | .hbm, ⟨26, _⟩ => ⟨S8320x32, .f32⟩
  | .hbm, ⟨27, _⟩ => ⟨S8320x32, .f32⟩
  | .hbm, ⟨28, _⟩ => ⟨S8320x4, .f32⟩
  | .hbm, ⟨29, _⟩ => ⟨S8320x4, .i32⟩
  | .hbm, ⟨30, _⟩ => ⟨S_, .f32⟩
  | .hbm, ⟨31, _⟩ => ⟨S8320, .f32⟩
  | .hbm, ⟨32, _⟩ => ⟨S_, .f32⟩
  | .hbm, ⟨33, _⟩ => ⟨S8320, .f32⟩
  | .hbm, ⟨34, _⟩ => ⟨S8320, .f32⟩
  | .hbm, ⟨35, _⟩ => ⟨S8320x1, .f32⟩
  | .hbm, ⟨36, _⟩ => ⟨S8320x4, .f32⟩
  | .hbm, ⟨37, _⟩ => ⟨S8320x4, .f32⟩
  | .hbm, ⟨38, _⟩ => ⟨S8320x4, .f32⟩
  | .hbm, ⟨39, _⟩ => ⟨S_, .f32⟩
  | .hbm, ⟨40, _⟩ => ⟨S8320, .f32⟩
  | .hbm, ⟨41, _⟩ => ⟨S8320x1, .f32⟩
  | .hbm, ⟨42, _⟩ => ⟨S8320x4, .f32⟩
  | .hbm, ⟨43, _⟩ => ⟨S8320x4, .f32⟩
  | .hbm, ⟨44, _⟩ => ⟨S_, .i32⟩
  | .hbm, ⟨45, _⟩ => ⟨S_, .f32⟩
  | .hbm, ⟨46, _⟩ => ⟨S8320x128, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_call1_v0 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Maths.lean ====
/-
  The equations of extended reals the four calls rest on: the sigmoid by the hyperbolic tangent, and a row's
  normalising factor taken out of a sum.
-/
module

public import Idealize.ShloMosaic.PureOps.Ideal
public import Mathlib.Analysis.SpecialFunctions.Trigonometric.DerivHyp

@[expose] public section

noncomputable section

namespace Cert.Proof.Maths

open Idealize.ShloMosaic

/-- `tanh (x/2) / 2 + 1/2 = 1 / (1 + e⁻ˣ)` for real `x`. -/
theorem tanh_half (x : ℝ) : 0.5 * Real.tanh (0.5 * x) + 0.5 = (1 + Real.exp (-x))⁻¹ := by
  have h : Real.exp (-x) = Real.exp (-(0.5 * x)) * Real.exp (-(0.5 * x)) := by
    rw [← Real.exp_add]; ring_nf
  rw [Real.tanh_eq_sinh_div_cosh, Real.sinh_eq, Real.cosh_eq, h, Real.exp_neg]
  have := Real.exp_pos (0.5 * x)
  field_simp
  ring

/-- The gate's sigmoid as the kernel writes it is the logistic function, the infinities included. -/
theorem sigmoid_tanh (x : EReal) :
    ((0.5 : ℝ) : EReal) * Ideal.tanh (((0.5 : ℝ) : EReal) * x) + ((0.5 : ℝ) : EReal) = Ideal.logistic x := by
  induction x using EReal.rec with
  | bot =>
    rw [EReal.coe_mul_bot_of_pos (by norm_num), Ideal.tanh_bot, Ideal.logistic_bot,
      show (-1 : EReal) = ((-1 : ℝ) : EReal) by norm_num, ← EReal.coe_mul, ← EReal.coe_add]
    norm_num
  | coe r =>
    rw [← EReal.coe_mul, Ideal.tanh_coe, ← EReal.coe_mul, ← EReal.coe_add, Ideal.logistic_coe, tanh_half]
  | top =>
    rw [EReal.coe_mul_top_of_pos (by norm_num), Ideal.tanh_top, Ideal.logistic_top, mul_one, ← EReal.coe_add]
    norm_num

/-- A square is not negative. -/
theorem mul_self_nonneg (x : EReal) : 0 ≤ x * x := by
  induction x using EReal.rec with
  | bot => simp
  | coe r => rw [← EReal.coe_mul]; exact_mod_cast _root_.mul_self_nonneg r
  | top => simp

/-- The reciprocal root of something positive is a real number not below zero. -/
theorem rsqrt_real {s : EReal} (h : 0 < s) : ∃ r : ℝ, 0 ≤ r ∧ Ideal.rsqrt s = (r : EReal) := by
  induction s using EReal.rec with
  | bot => simp at h
  | coe x =>
    have hx : 0 < x := by exact_mod_cast h
    exact ⟨(Real.sqrt x)⁻¹, by positivity, by rw [Ideal.rsqrt_coe, if_neg (by linarith), if_neg (by linarith)]⟩
  | top => exact ⟨0, le_rfl, by simp⟩

/-- A real factor not below zero goes into a finite sum. -/
theorem sum_mul {ι : Type} (t : Finset ι) (f : ι → EReal) {r : ℝ} (h : 0 ≤ r) :
    (∑ i ∈ t, f i) * (r : EReal) = ∑ i ∈ t, f i * (r : EReal) := by
  classical
  induction t using Finset.induction_on with
  | empty => simp
  | insert a s ha ih =>
    rw [Finset.sum_insert ha, Finset.sum_insert ha, EReal.right_distrib_of_nonneg_of_ne_top (by exact_mod_cast h)
      (EReal.coe_ne_top r), ih]

/-- A row scaled by the reciprocal root of its mean square before a product, or the product scaled after it. -/
theorem norm_out {n : ℕ} (v g w : Fin n → EReal) {d e : ℝ} (hd : 0 < d) (he : 0 < e) :
    ∑ k, v k * Ideal.rsqrt (Ideal.div (∑ j, v j * v j) (d : EReal) + (e : EReal)) * g k * w k
      = (∑ k, v k * g k * w k) * Ideal.rsqrt ((∑ j, v j * v j) * ((d⁻¹ : ℝ) : EReal) + (e : EReal)) := by
  have hs : 0 ≤ ∑ j, v j * v j := Finset.sum_nonneg fun j _ => mul_self_nonneg (v j)
  have hq : Ideal.div (∑ j, v j * v j) (d : EReal) = (∑ j, v j * v j) * ((d⁻¹ : ℝ) : EReal) := by
    rw [Ideal.div_coe hd.ne', one_div]
  have hp : 0 < (∑ j, v j * v j) * ((d⁻¹ : ℝ) : EReal) + (e : EReal) :=
    lt_of_lt_of_le (by exact_mod_cast he : (0 : EReal) < (e : EReal))
      (le_add_of_nonneg_left (mul_nonneg hs (by exact_mod_cast (inv_pos.mpr hd).le)))
  rw [hq]
  obtain ⟨r, hr, hrs⟩ := rsqrt_real hp
  rw [hrs, sum_mul _ _ hr]
  refine Finset.sum_congr rfl fun k _ => ?_
  rw [mul_right_comm (v k), mul_right_comm (v k * g k)]

end Cert.Proof.Maths
-- ==== Proof.Gates.lean ====
/-
  The merge gates: the block-wise product with its contraction in two halves and the sigmoid by the hyperbolic tangent
  is the sigmoid of the product of the padded rows with the gates' columns.
-/
module

public import proofs.«01_k».proof.Defs
public import proofs.«01_k».proof.Proof.Maths
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Gates

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The constant one half. -/
theorem half : Ideal.ofBits .f32 0x3F000000#32 = ((0.5 : ℝ) : EReal) := by
  simp [Ideal.ofBits, Ideal.ieee, -EReal.coe_mul]; norm_num

/-- The integer zero, read as a float. -/
theorem zero (φ : FTy) : FloatOps.sitofp (F := Ideal) φ 0#32 = 0 := by
  show (((0#32).toInt : ℝ) : EReal) = 0
  simp

/-- The padded rows: 112 rows of zeros, then the given ones. -/
def rows (u : Vec Ideal S8208x4096 .bf16) (r : Fin 8320) (k : Fin 4096) : EReal :=
  if h : 112 ≤ r.val then u (ix2 ⟨r.val - 112, by omega⟩ k) else 0

/-- The gates by the layer's formula. -/
def spec (u : Vec Ideal S8208x4096 .bf16) (w : Vec Ideal S4096x30848 .f32) : Vec Ideal S8320x8192 .bf16 := fun i =>
  Ideal.logistic (∑ k : Fin 4096, rows u (i 0) k * w (ix2 k ⟨22656 + (i 1).val, by have : (i 1).val < 8192 := (i 1).isLt; omega⟩))

/-- The first half's product. -/
theorem part1 (a : Vec Ideal S1664x2048 .bf16) (w : Vec Ideal S2048x1024 .f32) (i : S1664x1024.Idx) :
    k0_pay1 a w i = ∑ k : Fin 2048, a (ix2 (i 0) k) * w (ix2 k (i 1)) := by
  pointwise [k0_pay1]

/-- The second half's product, added to the first, through the sigmoid. -/
theorem part2 (acc : Vec Ideal S1664x1024 .f32) (a : Vec Ideal S1664x2048 .bf16) (w : Vec Ideal S2048x1024 .f32) (i : S1664x1024.Idx) :
    k0_pay2 acc a w i = Ideal.logistic (acc i + ∑ k : Fin 2048, a (ix2 (i 0) k) * w (ix2 k (i 1))) := by
  rw [← Maths.sigmoid_tanh, ← half]
  pointwise [k0_pay2]

/-- Where each window's block begins. -/
theorem idx : ∀ t : Fin cfg0.N, win0_0.index t = ![t.val / 16, t.val % 2] ∧ win0_1.index t = ![t.val % 2 * 2048, 22656 + t.val / 2 % 8 * 1024]
    ∧ win0_2.index t = ![t.val / 16, t.val / 2 % 8] :=
  (by decide +kernel : ∀ t : Fin grid0.N, _)

/-- The rows the call is given. -/
theorem entry (c : Dev nD) (j : S8320x4096.Idx) : V m c main_v0 j = rows (m ((c : Thread nD τ).loc main_arg0)) (j 0) (j 1) := by
  have e : V m c main_v0 = pad S8320x4096 ![112, 0] ![0, 0] ![0, 0] (show Vec Ideal S8208x4096 .bf16 from m ((c : Thread nD τ).loc main_arg0)) (sitofp (F := Ideal) .bf16 (constantI S_ 32 0#32)) pads_S8208x4096_S8320x4096_11200_000 h_S_ := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
  rw [e]
  unfold rows
  pointwise
  have h8 : (j 0).val < 8320 := (j 0).isLt
  by_cases h : 112 ≤ (j 0).val
  · rw [dif_pos h, dif_pos ⟨h, by omega⟩]
  · rw [dif_neg h, dif_neg (fun q => h q.1)]
    exact zero .bf16

/-- A block of the rows. -/
theorem blkU (c : Dev nD) (t : Fin cfg0.N) (y : S1664x2048.Idx) (r : Fin 8320) (k : Fin 4096)
    (hr : r.val = t.val / 16 * 1664 + (y 0).val) (hk : k.val = t.val % 2 * 2048 + (y 1).val) :
    iblk m c 0 t y = rows (m ((c : Thread nD τ).loc main_arg0)) r k := by
  blk_simp [iblk]
  rw [entry]
  congr 1 <;> apply Fin.ext
  all_goals (blk_simp [idx t] <;> try omega)

/-- A block of the weights, found at its first element. -/
theorem blkW (c : Dev nD) (t : Fin cfg0.N) (y : S2048x1024.Idx) (k : Fin 4096) (j : Fin 30848)
    (hk : k.val = t.val % 2 * 2048 + (y 0).val) (hj : j.val = 22656 + t.val / 2 % 8 * 1024 + (y 1).val) :
    iblk m c 1 t y = m ((c : Thread nD τ).loc main_arg1) (ix2 k j) := by
  have e0 : ((win0_1.blk t).view.emb y 0).val = win0_1.index t 0 + 1 * (y 0).val := rfl
  have e1 : ((win0_1.blk t).view.emb y 1).val = win0_1.index t 1 + 1 * (y 1).val := rfl
  rw [(idx t).2.1] at e0 e1
  have e0' : (win0_1.blk t).view.emb y 0 = k := Fin.ext (e0.trans (by rw [hk]; show t.val % 2 * 2048 + _ = _; omega))
  have e1' : (win0_1.blk t).view.emb y 1 = j := Fin.ext (e1.trans (by rw [hj]; show 22656 + t.val / 2 % 8 * 1024 + _ = _; omega))
  show V m c main_arg1 ((win0_1.blk t).view.emb y) = _
  rw [V_main_arg1, eq_ix2 ((win0_1.blk t).view.emb y), e0', e1']

/-- After the first of a block's two points the scratch holds that point's product. -/
theorem scratch (c : Dev nD) (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by dsimp only; omega)]
  dsimp only
  funext y
  frame_out

/-- What the second of a block's two points leaves for the write-back. -/
theorem outB (c : Dev nD) (t : Fin cfg0.N) (hf : t.val % 2 = 1) (hs : t.val - 1 < cfg0.N) (y : S1664x1024.Idx) :
    (outsAt0 m c t.val t.isLt).1 y = k0_pay2 (k0_pay1 (iblk m c 0 ⟨t.val - 1, hs⟩) (iblk m c 1 ⟨t.val - 1, hs⟩)) (iblk m c 0 t) (iblk m c 1 t) y := by
  rw [outsAt0_B m c t (by omega) hf, scratch m c (t.val - 1) _ (by omega)]
  dsimp only
  frame_out
  rw [read_unread_whole]

/-- What the second of a block's two points writes. -/
theorem point (c : Dev nD) (t : Fin cfg0.N) (hf : t.val % 2 = 1) (s : Fin cfg0.N) (hs : s.val = t.val - 1) (y : S1664x1024.Idx) (i : S8320x8192.Idx)
    (h0 : (i 0).val = t.val / 16 * 1664 + (y 0).val) (h1 : (i 1).val = t.val / 2 % 8 * 1024 + (y 1).val) :
    k0_pay2 (k0_pay1 (iblk m c 0 s) (iblk m c 1 s)) (iblk m c 0 t) (iblk m c 1 t) y
      = spec (m ((c : Thread nD τ).loc main_arg0)) (m ((c : Thread nD τ).loc main_arg1)) i := by
  rw [part2, part1]
  unfold spec
  refine congrArg Ideal.logistic ?_
  rw [Fin.sum_univ_two_halves 2048 2048 rfl]
  refine Ideal.add_congr ?_ ?_
  · refine Fin.sum_fin_congr fun k => Ideal.mul_congr (blkU m c s _ _ _ ?_ ?_) (blkW m c s _ _ _ ?_ ?_)
    all_goals (dsimp only [ix2]; omega)
  · refine Fin.sum_fin_congr fun k => Ideal.mul_congr (blkU m c t _ _ _ ?_ ?_) (blkW m c t _ _ _ ?_ ?_)
    all_goals (dsimp only [ix2]; omega)

/-- The array after the run. -/
theorem final (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  have hf' := (flush0_2 t).mp hf
  have hs : t.val - 1 < cfg0.N := Nat.lt_of_le_of_lt (Nat.sub_le _ _) t.isLt
  blk_simp
  rw [after0_2]
  refine (outB m c t hf' hs y).trans (point m c t hf' ⟨t.val - 1, hs⟩ rfl y _ ?_ ?_)
  · blk_simp [idx t]
  · blk_simp [idx t]

/-- The gates' claim. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine Eq.trans ?_ (final m c).symm
  clear h
  funext i
  unfold spec rows Ideal.logistic
  pointwise
  congr 4
  refine Finset.sum_congr rfl fun k _ => congrArg (· * _) ?_
  have hi : (i 0).val < 8320 := (i 0).isLt
  by_cases hp : 112 ≤ (i 0).val
  · rw [dif_pos hp, dif_pos]
    intro a
    fin_cases a
    · change 112 ≤ (i 0).val ∧ ((i 0).val - 112) % (0 + 1) = 0 ∧ ((i 0).val - 112) / (0 + 1) < 8208
      omega
    · change 0 ≤ k.val ∧ (k.val - 0) % (0 + 1) = 0 ∧ (k.val - 0) / (0 + 1) < 4096
      have := k.isLt
      omega
  · rw [dif_neg hp, dif_neg fun h => hp (h 0).1]
    exact zero _

end Cert.Proof.Gates
-- ==== Proof.Main.lean ====
/-
  The main columns of the input projection: the block-wise product with its contraction in two halves is the product of
  the padded rows with the first columns.
-/
module

public import proofs.«01_k».proof.Defs
public import proofs.«01_k».proof.Proof.Maths
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Main

open Cert.Kernel2Ideal Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The padded rows: 112 rows of zeros, then the given ones. -/
def rows (u : Vec Ideal S8208x4096 .bf16) (r : Fin 8320) (k : Fin 4096) : EReal :=
  if h : 112 ≤ r.val then u (ix2 ⟨r.val - 112, by omega⟩ k) else 0

/-- The columns by the layer's formula. -/
def spec (u : Vec Ideal S8208x4096 .bf16) (w : Vec Ideal S4096x30848 .f32) : Vec Ideal S8320x22528 .bf16 := fun i =>
  (∑ k : Fin 4096, rows u (i 0) k * w (ix2 k ⟨(i 1).val, by have : (i 1).val < 22528 := (i 1).isLt; omega⟩))

/-- The first half's product. -/
theorem part1 (a : Vec Ideal S1664x2048 .bf16) (w : Vec Ideal S2048x1024 .f32) (i : S1664x1024.Idx) :
    k0_pay1 a w i = ∑ k : Fin 2048, a (ix2 (i 0) k) * w (ix2 k (i 1)) := by
  pointwise [k0_pay1]

/-- The second half's product, added to the first, ready for the write-back. -/
theorem part2 (acc : Vec Ideal S1664x1024 .f32) (a : Vec Ideal S1664x2048 .bf16) (w : Vec Ideal S2048x1024 .f32) (i : S1664x1024.Idx) :
    k0_pay2 acc a w i = acc i + ∑ k : Fin 2048, a (ix2 (i 0) k) * w (ix2 k (i 1)) := by
  pointwise [k0_pay2]

/-- Where each window's block begins. -/
theorem idx : ∀ t : Fin cfg0.N, win0_0.index t = ![t.val / 44, t.val % 2] ∧ win0_1.index t = ![t.val % 2, t.val / 2 % 22]
    ∧ win0_2.index t = ![t.val / 44, t.val / 2 % 22] :=
  (by decide +kernel : ∀ t : Fin grid0.N, _)

/-- The rows the call is given. -/
theorem entry (c : Dev nD) (j : S8320x4096.Idx) : V m c main_v0 j = rows (m ((c : Thread nD τ).loc main_arg0)) (j 0) (j 1) := by
  have e : V m c main_v0 = pad S8320x4096 ![112, 0] ![0, 0] ![0, 0] (show Vec Ideal S8208x4096 .bf16 from m ((c : Thread nD τ).loc main_arg0)) (sitofp (F := Ideal) .bf16 (constantI S_ 32 0#32)) pads_S8208x4096_S8320x4096_11200_000 h_S_ := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
  rw [e]
  unfold rows
  pointwise
  have h8 : (j 0).val < 8320 := (j 0).isLt
  by_cases h : 112 ≤ (j 0).val
  · rw [dif_pos h, dif_pos ⟨h, by omega⟩]
  · rw [dif_neg h, dif_neg (fun q => h q.1)]
    exact zero .bf16

/-- A block of the rows. -/
theorem blkU (c : Dev nD) (t : Fin cfg0.N) (y : S1664x2048.Idx) (r : Fin 8320) (k : Fin 4096)
    (hr : r.val = t.val / 44 * 1664 + (y 0).val) (hk : k.val = t.val % 2 * 2048 + (y 1).val) :
    iblk m c 0 t y = rows (m ((c : Thread nD τ).loc main_arg0)) r k := by
  blk_simp [iblk]
  rw [entry]
  congr 1 <;> apply Fin.ext
  all_goals (blk_simp [idx t] <;> try omega)

/-- A block of the weights. -/
theorem blkW (c : Dev nD) (t : Fin cfg0.N) (y : S2048x1024.Idx) (k : Fin 4096) (j : Fin 30848)
    (hk : k.val = t.val % 2 * 2048 + (y 0).val) (hj : j.val = t.val / 2 % 22 * 1024 + (y 1).val) :
    X0_1 m c t y = m ((c : Thread nD τ).loc main_arg1) (ix2 k j) := by
  unfold X0_1 Pipeline.Window.fill
  rw [dif_pos (moved0_1 t y)]
  blk_simp [iblk]
  rw [V_main_arg1]
  congr 1
  funext a
  fin_cases a <;> apply Fin.ext
  · blk_simp [idx t]
    exact hk.symm
  · blk_simp [idx t]
    exact hj.symm

/-- After the first of a block's two points the scratch holds that point's product. -/
theorem scratch (c : Dev nD) (n : ℕ) (hn : n < cfg0.N) (h : n % 2 = 0) :
    (outsAt0 m c n hn).2 = k0_pay1 (iblk m c 0 ⟨n, hn⟩) (X0_1 m c ⟨n, hn⟩) := by
  rw [outsAt0_A m c ⟨n, hn⟩ h (by dsimp only; omega)]
  dsimp only
  funext y
  frame_out

/-- What the second of a block's two points leaves for the write-back. -/
theorem outB (c : Dev nD) (t : Fin cfg0.N) (hf : t.val % 2 = 1) (hs : t.val - 1 < cfg0.N) (y : S1664x1024.Idx) :
    (outsAt0 m c t.val t.isLt).1 y = k0_pay2 (k0_pay1 (iblk m c 0 ⟨t.val - 1, hs⟩) (X0_1 m c ⟨t.val - 1, hs⟩)) (iblk m c 0 t) (X0_1 m c t) y := by
  rw [outsAt0_B m c t (by omega) hf, scratch m c (t.val - 1) _ (by omega)]
  dsimp only
  frame_out
  rw [read_unread_whole]

/-- What the second of a block's two points writes. -/
theorem point (c : Dev nD) (t : Fin cfg0.N) (hf : t.val % 2 = 1) (s : Fin cfg0.N) (hs : s.val = t.val - 1) (y : S1664x1024.Idx) (i : S8320x22528.Idx)
    (h0 : (i 0).val = t.val / 44 * 1664 + (y 0).val) (h1 : (i 1).val = t.val / 2 % 22 * 1024 + (y 1).val) :
    k0_pay2 (k0_pay1 (iblk m c 0 s) (X0_1 m c s)) (iblk m c 0 t) (X0_1 m c t) y
      = spec (m ((c : Thread nD τ).loc main_arg0)) (m ((c : Thread nD τ).loc main_arg1)) i := by
  rw [part2, part1]
  unfold spec
  rw [Fin.sum_univ_two_halves 2048 2048 rfl]
  refine Ideal.add_congr ?_ ?_
  · refine Fin.sum_fin_congr fun k => Ideal.mul_congr (blkU m c s _ _ _ ?_ ?_) (blkW m c s _ _ _ ?_ ?_)
    all_goals (dsimp only [ix2]; omega)
  · refine Fin.sum_fin_congr fun k => Ideal.mul_congr (blkU m c t _ _ _ ?_ ?_) (blkW m c t _ _ _ ?_ ?_)
    all_goals (dsimp only [ix2]; omega)

/-- The array after the run. -/
theorem final (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  have hf' := (flush0_2 t).mp hf
  have hs : t.val - 1 < cfg0.N := Nat.lt_of_le_of_lt (Nat.sub_le _ _) t.isLt
  blk_simp
  rw [after0_2]
  refine (outB m c t hf' hs y).trans (point m c t hf' ⟨t.val - 1, hs⟩ rfl y _ ?_ ?_)
  · blk_simp [idx t]
  · blk_simp [idx t]

/-- The main columns' claim. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  refine Eq.trans ?_ (final m c).symm
  clear h
  funext i
  unfold spec rows
  pointwise
  refine Finset.sum_congr rfl fun k _ => congrArg (· * _) ?_
  have hi : (i 0).val < 8320 := (i 0).isLt
  by_cases hp : 112 ≤ (i 0).val
  · rw [dif_pos hp, dif_pos]
    intro a
    fin_cases a
    · change 112 ≤ (i 0).val ∧ ((i 0).val - 112) % (0 + 1) = 0 ∧ ((i 0).val - 112) / (0 + 1) < 8208
      omega
    · change 0 ≤ k.val ∧ (k.val - 0) % (0 + 1) = 0 ∧ (k.val - 0) / (0 + 1) < 4096
      have := k.isLt
      omega
  · rw [dif_neg hp, dif_neg fun h => hp (h 0).1]
    exact zero _

end Cert.Proof.Main
-- ==== Proof.OutProj.lean ====
/-
  The output projection with the residual: the block-wise product with its contraction in four parts, added to the rows
  the block stands over, is the layer's formula.
-/
module

public import proofs.«01_k».proof.Defs
public import proofs.«01_k».proof.Proof.Maths
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.OutProj

open Cert.Kernel3Ideal Cert.Kernel3Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The padded rows: 112 rows of zeros, then the given ones. -/
def rows (u : Vec Ideal S8208x4096 .bf16) (r : Fin 8320) (k : Fin 4096) : EReal :=
  if h : 112 ≤ r.val then u (ix2 ⟨r.val - 112, by omega⟩ k) else 0

/-- One of the four parts of the contraction. -/
def part (u : Vec Ideal S8208x4096 .bf16) (w : Vec Ideal S4096x4096 .f32) (i : S8320x4096.Idx) (s : Fin 4) : EReal :=
  ∑ k : Fin 1024, rows u (i 0) ⟨s.val * 1024 + k.val, by omega⟩ * w (ix2 ⟨s.val * 1024 + k.val, by omega⟩ (i 1))

/-- The residual's rows: 112 rows of zeros, the 16 given tokens, then the sequence. -/
def resid (tok : Vec Ideal S16x4096 .f32) (x : Vec Ideal S8192x4096 .f32) (r : Fin 8320) (j : Fin 4096) : EReal :=
  if h : 128 ≤ r.val then x (ix2 ⟨r.val - 128, by omega⟩ j)
  else if h' : 112 ≤ r.val then tok (ix2 ⟨r.val - 112, by omega⟩ j) else 0

/-- The layer's formula. -/
def spec (u : Vec Ideal S8208x4096 .bf16) (w : Vec Ideal S4096x4096 .f32) (tok : Vec Ideal S16x4096 .f32)
    (x : Vec Ideal S8192x4096 .f32) : Vec Ideal S8320x4096 .f32 := fun i =>
  resid tok x (i 0) (i 1) + ∑ k : Fin 4096, rows u (i 0) k * w (ix2 k (i 1))

/-- The first part's product. -/
theorem pay1 (a : Vec Ideal S1664x1024 .bf16) (w : Vec Ideal S1024x1024 .f32) (i : S1664x1024.Idx) :
    k0_pay1 a w i = ∑ k : Fin 1024, a (ix2 (i 0) k) * w (ix2 k (i 1)) := by
  pointwise [k0_pay1]

/-- A middle part's product, added. -/
theorem pay2 (acc : Vec Ideal S1664x1024 .f32) (a : Vec Ideal S1664x1024 .bf16) (w : Vec Ideal S1024x1024 .f32) (i : S1664x1024.Idx) :
    k0_pay2 acc a w i = acc i + ∑ k : Fin 1024, a (ix2 (i 0) k) * w (ix2 k (i 1)) := by
  pointwise [k0_pay2]

/-- The last part's product, added. -/
theorem pay3 (acc : Vec Ideal S1664x1024 .f32) (a : Vec Ideal S1664x1024 .bf16) (w : Vec Ideal S1024x1024 .f32) (i : S1664x1024.Idx) :
    k0_pay3 acc a w i = acc i + ∑ k : Fin 1024, a (ix2 (i 0) k) * w (ix2 k (i 1)) := by
  pointwise [k0_pay3]

/-- The first block's first rows. -/
theorem pay4 (acc : Vec Ideal S1664x1024 .f32) (a : Vec Ideal S1664x1024 .bf16) (w : Vec Ideal S1024x1024 .f32) (b : Vec Ideal S128x1024 .f32) (i : S128x1024.Idx) :
    k0_pay4 acc a w b i = b i + k0_pay3 acc a w (ix2 ⟨(i 0).val, by have : (i 0).val < 128 := (i 0).isLt; omega⟩ (i 1)) := by
  pointwise [k0_pay4]

/-- The first block's other rows. -/
theorem pay5 (acc : Vec Ideal S1664x1024 .f32) (a : Vec Ideal S1664x1024 .bf16) (w : Vec Ideal S1024x1024 .f32) (b : Vec Ideal S1536x1024 .f32) (i : S1536x1024.Idx) :
    k0_pay5 acc a w b i = b i + k0_pay3 acc a w (ix2 ⟨128 + (i 0).val, by have : (i 0).val < 1536 := (i 0).isLt; omega⟩ (i 1)) := by
  pointwise [k0_pay5]

/-- A later block's rows. -/
theorem pay6 (acc : Vec Ideal S1664x1024 .f32) (a : Vec Ideal S1664x1024 .bf16) (w : Vec Ideal S1024x1024 .f32) (b : Vec Ideal S1664x1024 .f32) (i : S1664x1024.Idx) :
    k0_pay6 acc a w b i = b i + k0_pay3 acc a w i := by
  pointwise [k0_pay6]

/-- Where each window's block begins. -/
theorem idx : ∀ t : Fin cfg0.N, win0_0.index t = ![t.val / 16, t.val % 4] ∧ win0_1.index t = ![t.val % 4, t.val / 4 % 4]
    ∧ win0_2.index t = ![0, t.val / 4 % 4] ∧ win0_3.index t = ![t.val / 16 * 1664 - 128, t.val / 4 % 4 * 1024]
    ∧ win0_4.index t = ![t.val / 16, t.val / 4 % 4] :=
  (by decide +kernel : ∀ t : Fin grid0.N, _)

/-- The rows the call is given. -/
theorem entry (c : Dev nD) (j : S8320x4096.Idx) : V m c main_v2 j = rows (m ((c : Thread nD τ).loc main_arg0)) (j 0) (j 1) := by
  have e : V m c main_v2 = pad S8320x4096 ![112, 0] ![0, 0] ![0, 0] (show Vec Ideal S8208x4096 .bf16 from m ((c : Thread nD τ).loc main_arg0)) (sitofp (F := Ideal) .bf16 (constantI S_ 32 0#32)) pads_S8208x4096_S8320x4096_11200_000 h_S_ := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
  rw [e]
  unfold rows
  pointwise
  have h8 : (j 0).val < 8320 := (j 0).isLt
  by_cases h : 112 ≤ (j 0).val
  · rw [dif_pos h, dif_pos ⟨h, by omega⟩]
  · rw [dif_neg h, dif_neg (fun q => h q.1)]
    exact zero .bf16

/-- The first rows of the residual. -/
theorem entryHead (c : Dev nD) (j : S128x4096.Idx) (x : Vec Ideal S8192x4096 .f32) (r : Fin 8320) (k : Fin 4096) (hr : r.val = (j 0).val) (hk : k.val = (j 1).val) :
    V m c main_v1 j = resid (m ((c : Thread nD τ).loc main_arg2)) x r k := by
  have e : V m c main_v1 = concatenate S128x4096 0 [⟨S112x4096, broadcastInDim S112x4096 ![] bcast_S_S112x4096 (constant (F := Ideal) S_ .f32 0x00000000#32)⟩, ⟨S16x4096, (show Vec Ideal S16x4096 .f32 from m ((c : Thread nD τ).loc main_arg2))⟩] concatenates_S112x4096_S16x4096_S128x4096_d0 := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
  rw [e]
  have h8 : (j 0).val < 128 := (j 0).isLt
  unfold resid
  rw [dif_neg (by omega)]
  pointwise
  have ek : k = j 1 := Fin.ext hk
  subst ek
  by_cases h : 112 ≤ (j 0).val
  · rw [dif_neg (by omega), dif_pos (by omega)]
    congr 3
    omega
  · rw [dif_pos (by omega), dif_neg (by omega)]

/-- A block of the rows. -/
theorem blkU (c : Dev nD) (t : Fin cfg0.N) (y : S1664x1024.Idx) (r : Fin 8320) (k : Fin 4096)
    (hr : r.val = t.val / 16 * 1664 + (y 0).val) (hk : k.val = t.val % 4 * 1024 + (y 1).val) :
    iblk m c 0 t y = rows (m ((c : Thread nD τ).loc main_arg0)) r k := by
  blk_simp [iblk]
  rw [entry]
  congr 1 <;> apply Fin.ext
  all_goals (blk_simp [idx t] <;> try omega)

/-- A block of the weights. -/
theorem blkW (c : Dev nD) (t : Fin cfg0.N) (y : S1024x1024.Idx) (k : Fin 4096) (j : Fin 4096)
    (hk : k.val = t.val % 4 * 1024 + (y 0).val) (hj : j.val = t.val / 4 % 4 * 1024 + (y 1).val) :
    iblk m c 1 t y = m ((c : Thread nD τ).loc main_arg1) (ix2 k j) := by
  blk_simp [iblk]
  rw [V_main_arg1]
  congr 1
  funext a
  fin_cases a <;> apply Fin.ext
  · blk_simp [idx t]
    exact hk.symm
  · blk_simp [idx t]
    exact hj.symm

/-- A point's product is its part. -/
theorem term (c : Dev nD) (t : Fin cfg0.N) (y : S1664x1024.Idx) (i : S8320x4096.Idx) (s : Fin 4) (hs : t.val % 4 = s.val)
    (h0 : (i 0).val = t.val / 16 * 1664 + (y 0).val) (h1 : (i 1).val = t.val / 4 % 4 * 1024 + (y 1).val) :
    (∑ k : Fin 1024, (show Vec Ideal S1664x1024 .bf16 from iblk m c 0 t) (ix2 (y 0) k) * (show Vec Ideal S1024x1024 .f32 from iblk m c 1 t) (ix2 k (y 1)))
      = part (m ((c : Thread nD τ).loc main_arg0)) (m ((c : Thread nD τ).loc main_arg1)) i s := by
  unfold part
  refine Fin.sum_fin_congr fun k => Ideal.mul_congr (blkU m c t _ _ _ ?_ ?_) (blkW m c t _ _ _ ?_ ?_)
  all_goals (dsimp only [ix2]; omega)

/-- After the first of a block's points. -/
theorem accA (c : Dev nD) (t : Fin cfg0.N) (h : t.val % 4 = 0) (y : S1664x1024.Idx) :
    (outsAt0 m c t.val t.isLt).2 y = ∑ k : Fin 1024, (show Vec Ideal S1664x1024 .bf16 from iblk m c 0 t) (ix2 (y 0) k) * (show Vec Ideal S1024x1024 .f32 from iblk m c 1 t) (ix2 k (y 1)) := by
  rw [outsAt0_A m c t h (by omega) (by omega)]
  dsimp only
  frame_out
  rw [pay1]

/-- After a middle point. -/
theorem accB (c : Dev nD) (p t : Fin cfg0.N) (hp : t.val = p.val + 1) (h : t.val % 4 = 1 ∨ t.val % 4 = 2) (y : S1664x1024.Idx) :
    (outsAt0 m c t.val t.isLt).2 y = (outsAt0 m c p.val p.isLt).2 y
      + ∑ k : Fin 1024, (show Vec Ideal S1664x1024 .bf16 from iblk m c 0 t) (ix2 (y 0) k) * (show Vec Ideal S1024x1024 .f32 from iblk m c 1 t) (ix2 k (y 1)) := by
  have e : p = ⟨t.val - 1, Nat.lt_of_le_of_lt (Nat.sub_le _ _) t.isLt⟩ := Fin.ext (by show p.val = t.val - 1; omega)
  subst e
  rw [outsAt0_B m c t (by omega) (by omega) (by omega)]
  dsimp only
  frame_out
  rw [pay2, read_unread_whole]

/-- The sum so far, before the last point. -/
theorem acc (c : Dev nD) (q : ℕ) (y : S1664x1024.Idx) (i : S8320x4096.Idx)
    (h0 : (i 0).val = q / 4 * 1664 + (y 0).val) (h1 : (i 1).val = q % 4 * 1024 + (y 1).val) :
    ∀ (s : ℕ) (hs : s < 3) (hn : 4 * q + s < cfg0.N), (outsAt0 m c (4 * q + s) hn).2 y
      = ∑ s' : Fin (s + 1), part (m ((c : Thread nD τ).loc main_arg0)) (m ((c : Thread nD τ).loc main_arg1)) i ⟨s'.val, by omega⟩
  | 0, hs, hn => by
    rw [Fin.sum_univ_one]
    refine (accA m c ⟨4 * q + 0, hn⟩ (by dsimp only; omega) y).trans (term m c _ y i 0 ?_ ?_ ?_)
    all_goals (dsimp only; first | omega | (show (4 * q + 0) % 4 = 0; omega))
  | s + 1, hs, hn => by
    rw [Fin.sum_univ_castSucc]
    refine (accB m c ⟨4 * q + s, by omega⟩ ⟨4 * q + (s + 1), hn⟩ rfl (by dsimp only; omega) y).trans ?_
    refine Ideal.add_congr (acc c q y i h0 h1 s (by omega) (by omega)) (term m c _ y i ⟨s + 1, by omega⟩ ?_ ?_ ?_)
    all_goals (dsimp only; omega)

/-- The block of the residual's first rows. -/
theorem blkHead (c : Dev nD) (t : Fin cfg0.N) (y : S128x1024.Idx) (x : Vec Ideal S8192x4096 .f32) (r : Fin 8320) (j : Fin 4096)
    (hr : r.val = (y 0).val) (hj : j.val = t.val / 4 % 4 * 1024 + (y 1).val) :
    iblk m c 2 t y = resid (m ((c : Thread nD τ).loc main_arg2)) x r j := by
  blk_simp [iblk]
  refine entryHead m c _ x r j ?_ ?_
  · blk_simp [idx t]
    exact hr
  · blk_simp [idx t]
    exact hj

/-- A block of the sequence's rows, found at its first element. -/
theorem blkX (c : Dev nD) (t : Fin cfg0.N) (y : S1664x1024.Idx) (tok : Vec Ideal S16x4096 .f32) (r : Fin 8320) (j : Fin 4096)
    (hr : r.val = t.val / 16 * 1664 - 128 + (y 0).val + 128) (hj : j.val = t.val / 4 % 4 * 1024 + (y 1).val) :
    iblk m c 3 t y = resid tok (m ((c : Thread nD τ).loc main_arg3)) r j := by
  have e0 : ((win0_3.blk t).view.emb y 0).val = win0_3.index t 0 + 1 * (y 0).val := rfl
  have e1 : ((win0_3.blk t).view.emb y 1).val = win0_3.index t 1 + 1 * (y 1).val := rfl
  rw [(idx t).2.2.2.1] at e0 e1
  unfold resid
  rw [dif_pos (by omega)]
  have e0' : (win0_3.blk t).view.emb y 0 = (⟨r.val - 128, by omega⟩ : Fin 8192) := Fin.ext (e0.trans (by show t.val / 16 * 1664 - 128 + _ = r.val - 128; omega))
  have e1' : (win0_3.blk t).view.emb y 1 = j := Fin.ext (e1.trans (by rw [hj]; show t.val / 4 % 4 * 1024 + _ = _; omega))
  show V m c main_arg3 ((win0_3.blk t).view.emb y) = _
  rw [V_main_arg3, eq_ix2 ((win0_3.blk t).view.emb y), e0', e1']

/-- The whole contraction, at a block's last point. -/
theorem total (c : Dev nD) (t : Fin cfg0.N) (h : t.val % 4 = 3) (hs : t.val - 1 < cfg0.N) (y : S1664x1024.Idx) (i : S8320x4096.Idx)
    (h0 : (i 0).val = t.val / 16 * 1664 + (y 0).val) (h1 : (i 1).val = t.val / 4 % 4 * 1024 + (y 1).val) :
    k0_pay3 (outsAt0 m c (t.val - 1) hs).2 (iblk m c 0 t) (iblk m c 1 t) y
      = ∑ k : Fin 4096, rows (m ((c : Thread nD τ).loc main_arg0)) (i 0) k * m ((c : Thread nD τ).loc main_arg1) (ix2 k (i 1)) := by
  have e : ∀ (n : ℕ) (hn : n < cfg0.N), n = 4 * (t.val / 4) + 2 → (outsAt0 m c n hn).2 y
      = ∑ s' : Fin 3, part (m ((c : Thread nD τ).loc main_arg0)) (m ((c : Thread nD τ).loc main_arg1)) i ⟨s'.val, by omega⟩ := by
    intro n hn en
    subst en
    exact acc m c (t.val / 4) y i (by omega) h1 2 (by omega) hn
  rw [pay3, e _ hs (by omega)]
  refine (Ideal.add_congr rfl (term m c t y i 3 h h0 h1)).trans ?_
  refine (Fin.sum_univ_castSucc (part (m ((c : Thread nD τ).loc main_arg0)) (m ((c : Thread nD τ).loc main_arg1)) i)).symm.trans ?_
  unfold part
  refine Fin.sum_mul_add_congr fun s k hl => rfl

/-- The first block row's result. -/
theorem outC (c : Dev nD) (t : Fin cfg0.N) (hm : t.val % 4 = 3) (ht : t.val < 16) (y : S1664x1024.Idx) (i : S8320x4096.Idx)
    (h0 : (i 0).val = t.val / 16 * 1664 + (y 0).val) (h1 : (i 1).val = t.val / 4 % 4 * 1024 + (y 1).val) :
    (outsAt0 m c t.val t.isLt).1 y = spec (m ((c : Thread nD τ).loc main_arg0)) (m ((c : Thread nD τ).loc main_arg1))
      (m ((c : Thread nD τ).loc main_arg2)) (m ((c : Thread nD τ).loc main_arg3)) i := by
  rw [outsAt0_C m c t (by omega) (by omega) hm ht (by omega)]
  dsimp only
  frame_out
  rw [read_unread_whole]
  unfold spec
  canon_tiles x h using (by
    have h8 : (y 0).val < 1664 := (y 0).isLt
    have h9 : (y 1).val < 1024 := (y 1).isLt
    by_cases hy : 128 ≤ (y 0).val
    · refine ⟨_, List.mem_cons_self, (Rect.mem_set_unit (inb := inb_S1664x1024_S1536x1024_128_0)).mpr fun a => ?_⟩
      fin_cases a
      · exact ⟨hy, h8⟩
      · exact ⟨Nat.zero_le _, h9⟩
    · refine ⟨_, List.mem_cons_of_mem _ List.mem_cons_self, (Rect.mem_set_unit (inb := inb_S1664x1024_S128x1024_0_0)).mpr fun a => ?_⟩
      fin_cases a
      · exact ⟨Nat.zero_le _, Nat.lt_of_not_le hy⟩
      · exact ⟨Nat.zero_le _, h9⟩)
  · rw [pay5]
    refine Ideal.add_congr (blkX m c t _ _ _ _ ?_ ?_) (total m c t hm _ _ i ?_ ?_)
    · show _ = _ - 128 + (0 + 1 * (x 0).val) + 128
      omega
    · show _ = _ * 1024 + (0 + 1 * (x 1).val)
      omega
    · dsimp only [ix2]; omega
    · dsimp only [ix2]; omega
  · rw [pay4]
    refine Ideal.add_congr (blkHead m c t _ _ _ _ ?_ ?_) (total m c t hm _ _ i ?_ ?_)
    all_goals (dsimp only [ix2]; omega)

/-- A later block row's result. -/
theorem outD (c : Dev nD) (t : Fin cfg0.N) (h : t.val % 4 = 3) (ht : 16 ≤ t.val) (y : S1664x1024.Idx) (i : S8320x4096.Idx)
    (h0 : (i 0).val = t.val / 16 * 1664 + (y 0).val) (h1 : (i 1).val = t.val / 4 % 4 * 1024 + (y 1).val) :
    (outsAt0 m c t.val t.isLt).1 y = spec (m ((c : Thread nD τ).loc main_arg0)) (m ((c : Thread nD τ).loc main_arg1))
      (m ((c : Thread nD τ).loc main_arg2)) (m ((c : Thread nD τ).loc main_arg3)) i := by
  rw [outsAt0_D m c t (by omega) (by omega) h (by omega) ht]
  dsimp only
  frame_out
  rw [read_unread_whole, pay6]
  exact Ideal.add_congr (blkX m c t y _ _ _ (by omega) h1) (total m c t h _ y i h0 h1)

/-- The array after the run. -/
theorem final (c : Dev nD) : (dats m 0 c).arrAt 4 cfg0.N
    = spec (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have hf' := (flush0_4 t).mp hf
  blk_simp
  rw [after0_4]
  by_cases ht : t.val < 16
  · refine outC m c t hf' ht y _ ?_ ?_
    · blk_simp [idx t]
    · blk_simp [idx t]
  · refine outD m c t hf' (by omega) y _ ?_ ?_
    · blk_simp [idx t]
    · blk_simp [idx t]

/-- The output projection's claim. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  refine Eq.trans ?_ (final m c).symm
  clear h
  funext i
  unfold spec rows resid
  pointwise
  obtain ⟨-, -, a2, a3⟩ := hagree c
  rw [a2, a3, zero]
  have hi : (i 0).val < 8320 := (i 0).isLt
  by_cases h2 : 128 ≤ (i 0).val
  · rw [dif_pos (by omega), dif_neg (by omega), dif_pos h2]
    simp only [dif_pos (show 112 ≤ (i 0).val by omega)]
    congr 4
  · by_cases h3 : 112 ≤ (i 0).val
    · rw [dif_pos (by omega), dif_pos (by omega), dif_neg h2, dif_pos h3]
      simp only [dif_pos h3]
    · rw [dif_neg (by omega), dif_neg h2, dif_neg h3]
      simp only [dif_neg h3, zero_mul, Finset.sum_const_zero, add_zero]

end Cert.Proof.OutProj
-- ==== Proof.Merge.lean ====
/-
  The state-space mixer's output projection and the merge: the block-wise product with its contraction in eight parts,
  each row's normalising factor applied to the product and not to the rows, is the layer's formula.
-/
module

public import proofs.«01_k».proof.Defs
public import proofs.«01_k».proof.Proof.Maths
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Merge

open Cert.Kernel4Ideal Cert.Kernel4Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The number of a row's columns. -/
theorem count : Ideal.ofBits .f32 0x46000000#32 = ((8192 : ℝ) : EReal) := by
  simp [Ideal.ofBits, Ideal.ieee, -EReal.coe_mul]; norm_num

/-- Its reciprocal. -/
theorem recip : Ideal.ofBits .f32 0x39000000#32 = (((8192 : ℝ)⁻¹ : ℝ) : EReal) := by
  simp [Ideal.ofBits, Ideal.ieee, -EReal.coe_mul]; norm_num

/-- What the norm adds to the mean. -/
theorem eps : Ideal.ofBits .f32 0x3727C5AC#32 = ((10995116 / 1099511627776 : ℝ) : EReal) := by
  simp [Ideal.ofBits, Ideal.ieee, -EReal.coe_mul]; norm_num

/-- Rows padded above by 112 rows of zeros. -/
def padded {n : ℕ} (f : Fin 8208 → Fin n → EReal) (r : Fin 8320) (k : Fin n) : EReal :=
  if h : 112 ≤ r.val then f ⟨r.val - 112, by omega⟩ k else 0

/-- The rows to be projected, with the norm's weights. -/
def rows (v : Vec Ideal S8208x8192 .f32) (g : Vec Ideal S8192 .f32) (r : Fin 8320) (k : Fin 8192) : EReal :=
  padded (fun r k => v (ix2 r k) * g (ix1 k)) r k

/-- A row's sum of squares. -/
def squares (v : Vec Ideal S8208x8192 .f32) (r : Fin 8320) : EReal :=
  padded (n := 1) (fun r _ => ∑ e : Fin 8192, v (ix2 r e) * v (ix2 r e)) r 0

/-- One of the eight parts of the contraction. -/
def part (v : Vec Ideal S8208x8192 .f32) (g : Vec Ideal S8192 .f32) (w : Vec Ideal S8192x4096 .f32) (i : S8320x4096.Idx) (s : Fin 8) : EReal :=
  ∑ k : Fin 1024, rows v g (i 0) ⟨s.val * 1024 + k.val, by omega⟩ * w (ix2 ⟨s.val * 1024 + k.val, by omega⟩ (i 1))

/-- The result, with the row's factor on the product. -/
def spec (v : Vec Ideal S8208x8192 .f32) (g : Vec Ideal S8192 .f32) (w : Vec Ideal S8192x4096 .f32)
    (ma : Vec Ideal S8208x4096 .bf16) (gate : Vec Ideal S8208x8192 .bf16) : Vec Ideal S8320x4096 .bf16 := fun i =>
  padded (fun r k => ma (ix2 r k)) (i 0) (i 1)
    + padded (fun r k => gate (ix2 r k)) (i 0) ⟨4096 + (i 1).val, by have : (i 1).val < 4096 := (i 1).isLt; omega⟩
      * ((∑ k : Fin 8192, rows v g (i 0) k * w (ix2 k (i 1)))
        * Ideal.rsqrt (squares v (i 0) * Ideal.ofBits .f32 0x39000000#32 + Ideal.ofBits .f32 0x3727C5AC#32))

/-- The first part's product. -/
theorem pay1 (a : Vec Ideal S1664x1024 .bf16) (w : Vec Ideal S1024x1024 .f32) (i : S1664x1024.Idx) :
    k0_pay1 a w i = ∑ k : Fin 1024, a (ix2 (i 0) k) * w (ix2 k (i 1)) := by
  pointwise [k0_pay1]

/-- A middle part's product, added. -/
theorem pay2 (acc : Vec Ideal S1664x1024 .f32) (a : Vec Ideal S1664x1024 .bf16) (w : Vec Ideal S1024x1024 .f32) (i : S1664x1024.Idx) :
    k0_pay2 acc a w i = acc i + ∑ k : Fin 1024, a (ix2 (i 0) k) * w (ix2 k (i 1)) := by
  pointwise [k0_pay2]

/-- The last part's product, added, with the row's factor, the gate and the other mixer's row. -/
theorem pay3 (acc : Vec Ideal S1664x1024 .f32) (a : Vec Ideal S1664x1024 .bf16) (w : Vec Ideal S1024x1024 .f32)
    (q : Vec Ideal S1664x128 .f32) (b : Vec Ideal S1664x1024 .bf16) (g : Vec Ideal S1664x1024 .bf16) (i : S1664x1024.Idx) :
    k0_pay3 acc a w q b g i = b i + g i * ((acc i + ∑ k : Fin 1024, a (ix2 (i 0) k) * w (ix2 k (i 1)))
      * Ideal.rsqrt (q (ix2 (i 0) 0) * Ideal.ofBits .f32 0x39000000#32 + Ideal.ofBits .f32 0x3727C5AC#32)) := by
  pointwise [k0_pay3]

/-- Where each window's block begins. -/
theorem idx : ∀ t : Fin cfg0.N, win0_0.index t = ![t.val / 32, t.val % 8] ∧ win0_1.index t = ![t.val % 8, t.val / 8 % 4]
    ∧ win0_2.index t = ![t.val / 32, 0] ∧ win0_3.index t = ![t.val / 32, t.val / 8 % 4]
    ∧ win0_4.index t = ![t.val / 32, t.val / 8 % 4 + 4] ∧ win0_5.index t = ![t.val / 32, t.val / 8 % 4] :=
  (by decide +kernel : ∀ t : Fin grid0.N, _)

/-- The rows the call is given. -/
theorem entryV (c : Dev nD) (j : S8320x8192.Idx) : V m c main_v8 j = rows (m ((c : Thread nD τ).loc main_arg0)) (m ((c : Thread nD τ).loc main_arg1)) (j 0) (j 1) := by
  have e : V m c main_v8 = pad S8320x8192 ![112, 0] ![0, 0] ![0, 0] (truncf .bf16 (mulf (show FVec Ideal S8208x8192 .f32 from m ((c : Thread nD τ).loc main_arg0)) (broadcastInDim S8208x8192 ![0, 1] bcast_S1x8192_S8208x8192_0_1 (broadcastInDim S1x8192 ![1] bcast_S8192_S1x8192_1 (show FVec Ideal S8192 .f32 from m ((c : Thread nD τ).loc main_arg1))))) bitsLt_bf16_f32) (sitofp (F := Ideal) .bf16 (constantI S_ 32 0#32)) pads_S8208x8192_S8320x8192_11200_000 h_S_ := by
    unfold V; simp only [hostOps0, hostOps0_1, hostOps0_2, hostOps0_3, hostOps0_4, hostOps0_5, hostOps0_6, hostOps0_7, List.flatten_cons, List.flatten_nil, List.cons_append, List.nil_append, StableHlo.TRef.binary, StableHlo.TRef.unary, StableHlo.TRef.toBuf, StableHlo.TRef.ofBuf, cast_eq]; after_results
  rw [e]
  unfold rows padded
  pointwise
  have h8 : (j 0).val < 8320 := (j 0).isLt
  by_cases h : 112 ≤ (j 0).val
  · rw [dif_pos h, dif_pos ⟨h, by omega⟩]
  · rw [dif_neg h, dif_neg (fun q => h q.1)]
    exact zero _

/-- The rows' sums of squares. -/
theorem entryS (c : Dev nD) (j : S8320x128.Idx) : V m c main_v9 j = squares (m ((c : Thread nD τ).loc main_arg0)) (j 0) := by
  have e : V m c main_v9 = pad S8320x128 ![112, 0] ![0, 0] ![0, 0] (broadcastInDim S8208x128 ![0, 1] bcast_S8208x1_S8208x128_0_1 (broadcastInDim S8208x1 ![0] bcast_S8208_S8208x1_0 (Host.reduceAdd (mulf (show FVec Ideal S8208x8192 .f32 from m ((c : Thread nD τ).loc main_arg0)) (show FVec Ideal S8208x8192 .f32 from m ((c : Thread nD τ).loc main_arg0))) (constant (F := Ideal) S_ .f32 0x00000000#32) reducesTo_S8208x8192_S8208_d1 h_S_))) (sitofp (F := Ideal) .f32 (constantI S_ 32 0#32)) pads_S8208x128_S8320x128_11200_000 h_S_ := by
    unfold V; simp only [hostOps0, hostOps0_1, hostOps0_2, hostOps0_3, hostOps0_4, hostOps0_5, hostOps0_6, hostOps0_7, List.flatten_cons, List.flatten_nil, List.cons_append, List.nil_append, StableHlo.TRef.binary, StableHlo.TRef.unary, StableHlo.TRef.toBuf, StableHlo.TRef.ofBuf, cast_eq]; after_results
  rw [e]
  unfold squares padded
  pointwise
  have h8 : (j 0).val < 8320 := (j 0).isLt
  by_cases h : 112 ≤ (j 0).val
  · rw [dif_pos h, dif_pos ⟨h, by omega⟩]
  · rw [dif_neg h, dif_neg (fun q => h q.1)]
    exact zero _

/-- The other mixer's gated rows. -/
theorem entryM (c : Dev nD) (j : S8320x4096.Idx) : V m c main_v10 j = padded (fun r k => (m ((c : Thread nD τ).loc main_arg3)) (ix2 r k)) (j 0) (j 1) := by
  have e : V m c main_v10 = pad S8320x4096 ![112, 0] ![0, 0] ![0, 0] ((show FVec Ideal S8208x4096 .bf16 from m ((c : Thread nD τ).loc main_arg3))) (sitofp (F := Ideal) .bf16 (constantI S_ 32 0#32)) pads_S8208x4096_S8320x4096_11200_000 h_S_ := by
    unfold V; simp only [hostOps0, hostOps0_1, hostOps0_2, hostOps0_3, hostOps0_4, hostOps0_5, hostOps0_6, hostOps0_7, List.flatten_cons, List.flatten_nil, List.cons_append, List.nil_append, StableHlo.TRef.binary, StableHlo.TRef.unary, StableHlo.TRef.toBuf, StableHlo.TRef.ofBuf, cast_eq]; after_results
  rw [e]
  unfold padded
  pointwise
  have h8 : (j 0).val < 8320 := (j 0).isLt
  by_cases h : 112 ≤ (j 0).val
  · rw [dif_pos h, dif_pos ⟨h, by omega⟩]
  · rw [dif_neg h, dif_neg (fun q => h q.1)]
    exact zero _

/-- The gates. -/
theorem entryG (c : Dev nD) (j : S8320x8192.Idx) : V m c main_v11 j = padded (fun r k => (m ((c : Thread nD τ).loc main_arg4)) (ix2 r k)) (j 0) (j 1) := by
  have e : V m c main_v11 = pad S8320x8192 ![112, 0] ![0, 0] ![0, 0] ((show FVec Ideal S8208x8192 .bf16 from m ((c : Thread nD τ).loc main_arg4))) (sitofp (F := Ideal) .bf16 (constantI S_ 32 0#32)) pads_S8208x8192_S8320x8192_11200_000 h_S_ := by
    unfold V; simp only [hostOps0, hostOps0_1, hostOps0_2, hostOps0_3, hostOps0_4, hostOps0_5, hostOps0_6, hostOps0_7, List.flatten_cons, List.flatten_nil, List.cons_append, List.nil_append, StableHlo.TRef.binary, StableHlo.TRef.unary, StableHlo.TRef.toBuf, StableHlo.TRef.ofBuf, cast_eq]; after_results
  rw [e]
  unfold padded
  pointwise
  have h8 : (j 0).val < 8320 := (j 0).isLt
  by_cases h : 112 ≤ (j 0).val
  · rw [dif_pos h, dif_pos ⟨h, by omega⟩]
  · rw [dif_neg h, dif_neg (fun q => h q.1)]
    exact zero _

/-- A block of the rows. -/
theorem blkU (c : Dev nD) (t : Fin cfg0.N) (y : S1664x1024.Idx) (r : Fin 8320) (k : Fin 8192)
    (hr : r.val = t.val / 32 * 1664 + (y 0).val) (hk : k.val = t.val % 8 * 1024 + (y 1).val) :
    iblk m c 0 t y = rows (m ((c : Thread nD τ).loc main_arg0)) (m ((c : Thread nD τ).loc main_arg1)) r k := by
  blk_simp [iblk]
  rw [entryV]
  congr 1 <;> apply Fin.ext
  all_goals (blk_simp [idx t] <;> try omega)

/-- A block of the weights. -/
theorem blkW (c : Dev nD) (t : Fin cfg0.N) (y : S1024x1024.Idx) (k : Fin 8192) (j : Fin 4096)
    (hk : k.val = t.val % 8 * 1024 + (y 0).val) (hj : j.val = t.val / 8 % 4 * 1024 + (y 1).val) :
    iblk m c 1 t y = m ((c : Thread nD τ).loc main_arg2) (ix2 k j) := by
  blk_simp [iblk]
  rw [V_main_arg2]
  congr 1
  funext a
  fin_cases a <;> apply Fin.ext
  · blk_simp [idx t]
    exact hk.symm
  · blk_simp [idx t]
    exact hj.symm

/-- A point's product is its part. -/
theorem term (c : Dev nD) (t : Fin cfg0.N) (y : S1664x1024.Idx) (i : S8320x4096.Idx) (s : Fin 8) (hs : t.val % 8 = s.val)
    (h0 : (i 0).val = t.val / 32 * 1664 + (y 0).val) (h1 : (i 1).val = t.val / 8 % 4 * 1024 + (y 1).val) :
    (∑ k : Fin 1024, (show Vec Ideal S1664x1024 .bf16 from iblk m c 0 t) (ix2 (y 0) k) * (show Vec Ideal S1024x1024 .f32 from iblk m c 1 t) (ix2 k (y 1)))
      = part (m ((c : Thread nD τ).loc main_arg0)) (m ((c : Thread nD τ).loc main_arg1)) (m ((c : Thread nD τ).loc main_arg2)) i s := by
  unfold part
  refine Fin.sum_fin_congr fun k => Ideal.mul_congr (blkU m c t _ _ _ ?_ ?_) (blkW m c t _ _ _ ?_ ?_)
  all_goals (dsimp only [ix2]; omega)

/-- After the first of a block's points. -/
theorem accA (c : Dev nD) (t : Fin cfg0.N) (h : t.val % 8 = 0) (y : S1664x1024.Idx) :
    (outsAt0 m c t.val t.isLt).2 y = ∑ k : Fin 1024, (show Vec Ideal S1664x1024 .bf16 from iblk m c 0 t) (ix2 (y 0) k) * (show Vec Ideal S1024x1024 .f32 from iblk m c 1 t) (ix2 k (y 1)) := by
  rw [outsAt0_A m c t h (by omega) (by omega)]
  dsimp only
  frame_out
  rw [pay1]

/-- After a middle point. -/
theorem accB (c : Dev nD) (p t : Fin cfg0.N) (hp : t.val = p.val + 1) (h : 1 ≤ t.val % 8 ∧ t.val % 8 ≤ 6) (y : S1664x1024.Idx) :
    (outsAt0 m c t.val t.isLt).2 y = (outsAt0 m c p.val p.isLt).2 y
      + ∑ k : Fin 1024, (show Vec Ideal S1664x1024 .bf16 from iblk m c 0 t) (ix2 (y 0) k) * (show Vec Ideal S1024x1024 .f32 from iblk m c 1 t) (ix2 k (y 1)) := by
  have e : p = ⟨t.val - 1, Nat.lt_of_le_of_lt (Nat.sub_le _ _) t.isLt⟩ := Fin.ext (by show p.val = t.val - 1; omega)
  subst e
  rw [outsAt0_B m c t (by omega) (by omega) (by omega)]
  dsimp only
  frame_out
  rw [pay2, read_unread_whole]

/-- The sum so far, before the last point. -/
theorem acc (c : Dev nD) (q : ℕ) (y : S1664x1024.Idx) (i : S8320x4096.Idx)
    (h0 : (i 0).val = q / 4 * 1664 + (y 0).val) (h1 : (i 1).val = q % 4 * 1024 + (y 1).val) :
    ∀ (s : ℕ) (hs : s < 7) (hn : 8 * q + s < cfg0.N), (outsAt0 m c (8 * q + s) hn).2 y
      = ∑ s' : Fin (s + 1), part (m ((c : Thread nD τ).loc main_arg0)) (m ((c : Thread nD τ).loc main_arg1)) (m ((c : Thread nD τ).loc main_arg2)) i ⟨s'.val, by omega⟩
  | 0, hs, hn => by
    rw [Fin.sum_univ_one]
    refine (accA m c ⟨8 * q + 0, hn⟩ (by dsimp only; omega) y).trans (term m c _ y i 0 ?_ ?_ ?_)
    all_goals (dsimp only; first | omega | (show (8 * q + 0) % 8 = 0; omega))
  | s + 1, hs, hn => by
    rw [Fin.sum_univ_castSucc]
    refine (accB m c ⟨8 * q + s, by omega⟩ ⟨8 * q + (s + 1), hn⟩ rfl (by dsimp only; omega) y).trans ?_
    refine Ideal.add_congr (acc c q y i h0 h1 s (by omega) (by omega)) (term m c _ y i ⟨s + 1, by omega⟩ ?_ ?_ ?_)
    all_goals (dsimp only; omega)

/-- A block of the sums of squares. -/
theorem blkS (c : Dev nD) (t : Fin cfg0.N) (y : S1664x128.Idx) (r : Fin 8320) (hr : r.val = t.val / 32 * 1664 + (y 0).val) :
    iblk m c 2 t y = squares (m ((c : Thread nD τ).loc main_arg0)) r := by
  blk_simp [iblk]
  rw [entryS]
  congr 1
  apply Fin.ext
  blk_simp [idx t]
  exact hr.symm

/-- A block of the other mixer's rows. -/
theorem blkM (c : Dev nD) (t : Fin cfg0.N) (y : S1664x1024.Idx) (r : Fin 8320) (k : Fin 4096)
    (hr : r.val = t.val / 32 * 1664 + (y 0).val) (hk : k.val = t.val / 8 % 4 * 1024 + (y 1).val) :
    iblk m c 3 t y = padded (fun r k => (m ((c : Thread nD τ).loc main_arg3)) (ix2 r k)) r k := by
  blk_simp [iblk]
  rw [entryM]
  congr 1 <;> apply Fin.ext
  all_goals (blk_simp [idx t] <;> try omega)

/-- A block of the gates. -/
theorem blkG (c : Dev nD) (t : Fin cfg0.N) (y : S1664x1024.Idx) (r : Fin 8320) (k : Fin 8192)
    (hr : r.val = t.val / 32 * 1664 + (y 0).val) (hk : k.val = (t.val / 8 % 4 + 4) * 1024 + (y 1).val) :
    iblk m c 4 t y = padded (fun r k => (m ((c : Thread nD τ).loc main_arg4)) (ix2 r k)) r k := by
  blk_simp [iblk]
  rw [entryG]
  congr 1 <;> apply Fin.ext
  all_goals (blk_simp [idx t] <;> try omega)

/-- The whole contraction, at a block's last point. -/
theorem total (c : Dev nD) (t : Fin cfg0.N) (h : t.val % 8 = 7) (hs : t.val - 1 < cfg0.N) (y : S1664x1024.Idx) (i : S8320x4096.Idx)
    (h0 : (i 0).val = t.val / 32 * 1664 + (y 0).val) (h1 : (i 1).val = t.val / 8 % 4 * 1024 + (y 1).val) :
    (outsAt0 m c (t.val - 1) hs).2 y + (∑ k : Fin 1024, (show Vec Ideal S1664x1024 .bf16 from iblk m c 0 t) (ix2 (y 0) k) * (show Vec Ideal S1024x1024 .f32 from iblk m c 1 t) (ix2 k (y 1)))
      = ∑ k : Fin 8192, rows (m ((c : Thread nD τ).loc main_arg0)) (m ((c : Thread nD τ).loc main_arg1)) (i 0) k * m ((c : Thread nD τ).loc main_arg2) (ix2 k (i 1)) := by
  have e : ∀ (n : ℕ) (hn : n < cfg0.N), n = 8 * (t.val / 8) + 6 → (outsAt0 m c n hn).2 y
      = ∑ s' : Fin 7, part (m ((c : Thread nD τ).loc main_arg0)) (m ((c : Thread nD τ).loc main_arg1)) (m ((c : Thread nD τ).loc main_arg2)) i ⟨s'.val, by omega⟩ := by
    intro n hn en
    subst en
    exact acc m c (t.val / 8) y i (by omega) h1 6 (by omega) hn
  rw [e _ hs (by omega)]
  refine (Ideal.add_congr rfl (term m c t y i 7 h h0 h1)).trans ?_
  refine (Fin.sum_univ_castSucc (part (m ((c : Thread nD τ).loc main_arg0)) (m ((c : Thread nD τ).loc main_arg1)) (m ((c : Thread nD τ).loc main_arg2)) i)).symm.trans ?_
  unfold part
  refine Fin.sum_mul_add_congr fun s k hl => rfl

/-- What a block's last point leaves for the write-back. -/
theorem outC (c : Dev nD) (t : Fin cfg0.N) (h : t.val % 8 = 7) (y : S1664x1024.Idx) (i : S8320x4096.Idx)
    (h0 : (i 0).val = t.val / 32 * 1664 + (y 0).val) (h1 : (i 1).val = t.val / 8 % 4 * 1024 + (y 1).val) :
    (outsAt0 m c t.val t.isLt).1 y = spec (m ((c : Thread nD τ).loc main_arg0)) (m ((c : Thread nD τ).loc main_arg1)) (m ((c : Thread nD τ).loc main_arg2)) (m ((c : Thread nD τ).loc main_arg3)) (m ((c : Thread nD τ).loc main_arg4)) i := by
  rw [outsAt0_C m c t (by omega) (by omega) h]
  dsimp only
  frame_out
  rw [read_unread_whole, pay3]
  unfold spec
  refine Ideal.add_congr (blkM m c t y _ _ h0 h1) (Ideal.mul_congr (blkG m c t y _ _ h0 ?_) (Ideal.mul_congr (total m c t h _ y i h0 h1) ?_))
  · show 4096 + (i 1).val = _
    omega
  · rw [blkS m c t _ (i 0) h0]

/-- The array after the run. -/
theorem final (c : Dev nD) : (dats m 0 c).arrAt 5 cfg0.N = spec (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hf' := (flush0_5 t).mp hf
  blk_simp
  rw [after0_5]
  refine outC m c t hf' y _ ?_ ?_
  · blk_simp [idx t]
  · blk_simp [idx t]

/-- The merge's claim. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  simp only [hagree c]
  refine Eq.trans ?_ (final m c).symm
  clear h
  funext i
  unfold spec rows squares padded
  pointwise
  have hi : (i 0).val < 8320 := (i 0).isLt
  have hj : (i 1).val < 4096 := (i 1).isLt
  by_cases hp : 112 ≤ (i 0).val
  · rw [dif_pos, dif_pos hp, dif_pos hp, dif_pos hp]
    · simp only [dif_pos hp]
      refine Ideal.add_congr rfl (Ideal.mul_congr rfl ?_)
      rw [recip, count, eps]
      exact Maths.norm_out _ _ _ (by norm_num) (by norm_num)
    · intro a
      fin_cases a
      · change 112 ≤ (i 0).val ∧ ((i 0).val - 112) % (0 + 1) = 0 ∧ ((i 0).val - 112) / (0 + 1) < 8208
        omega
      · change 0 ≤ (i 1).val ∧ ((i 1).val - 0) % (0 + 1) = 0 ∧ ((i 1).val - 0) / (0 + 1) < 4096
        omega
  · rw [dif_neg fun h => hp (h 0).1, dif_neg hp, dif_neg hp, zero_mul, zero_add]
    exact zero _

end Cert.Proof.Merge
-- ==== Proof.Prefix.lean ====
/-
  The running sum of a column and its difference over a window: where the column is finite, the difference of two
  running sums is the sum of the window's entries.
-/
module

public import Idealize.ShloMosaic.PureOps.Ideal
public import Idealize.ShloMosaic.Lib.Routing.OpsOne

@[expose] public section

noncomputable section

namespace Cert.Proof.Prefix

open Idealize.ShloMosaic Idealize.ShloMosaic.Routing Idealize.ShloMosaic.ValueIdx

/-- A fold that adds, from zero, numbers that hang on the position's value alone. -/
theorem foldl_add {ι : Type} (l : List ι) (op : EReal → ι → EReal) (g : ι → EReal) (ho : ∀ r n, op r n = r + g n) (v : EReal) :
    l.foldl op v = v + (l.map g).sum := by
  induction l generalizing v with
  | nil => simp
  | cons a l ih => rw [List.foldl_cons, ih, ho, List.map_cons, List.sum_cons, add_assoc]

/-- A list of a range's values, summed, is the sum over the range. -/
theorem sum_range (f : ℕ → EReal) (n : ℕ) : ((List.range n).map f).sum = ∑ s ∈ Finset.range n, f s := by
  induction n with
  | zero => simp
  | succ n ih => rw [List.range_succ, List.map_append, List.sum_append, ih, Finset.sum_range_succ]; simp

/-- A window of the whole height, padded low by one less, covers the rows up to its own. -/
theorem sum_window (f : ℕ → EReal) (n r : ℕ) (h : r ≤ n) :
    ∑ w ∈ Finset.range (n + 1), (if n ≤ r + w then f (r + w - n) else 0) = ∑ s ∈ Finset.range (r + 1), f s := by
  rw [show n + 1 = (n - r) + (r + 1) by omega, Finset.sum_range_add]
  rw [Finset.sum_eq_zero, zero_add]
  · refine Finset.sum_congr rfl fun s _ => ?_
    rw [if_pos (by omega)]
    congr 1
    omega
  · intro w hw
    rw [if_neg (by have := Finset.mem_range.mp hw; omega)]

/-- The printed running sum along the first axis is the sum of the entries up to the row. -/
theorem running {R n C : ℕ} (hR : n + 1 = R) (x : Vec Ideal (shape2 R C) .f32) (f : ℕ → ℕ → EReal)
    (hx : ∀ (i : Fin R) (c : Fin C), x (ix2 i c) = f i.val c.val) (init : Vec Ideal shape0 .f32)
    (h : (shape2 R C).ReduceWindows (![R, 1] : Fin 2 → ℕ) ![1, 1] ![n, 0] ![0, 0] (shape2 R C)) (hu : 0 < shape0.numel)
    (hinit : init (Shape.Idx.first hu) = 0) (j : Fin R) (c : Fin C) :
    Host.reduceWindow (fun a b : EReal => a + b) ![R, 1] ![1, 1] ![n, 0] ![0, 0] x init h hu (ix2 j c)
      = ∑ s ∈ Finset.range (j.val + 1), f s c.val := by
  subst hR
  have hj := j.isLt
  have hc := c.isLt
  unfold Host.reduceWindow
  refine (foldl_add _ _ (fun q => if n ≤ j.val + q.val then f (j.val + q.val - n) c.val else 0) (fun r q => ?_) _).trans ?_
  · have hw0 : ((shape2 (n + 1) 1).rowMajor.symm q 0).val = q.val := by rw [symm_col]; rfl
    have hw1 : ((shape2 (n + 1) 1).rowMajor.symm q 1).val = 0 := by rw [symm_col]; rfl
    have hn : q.val < n + 1 := (q.cast (numel_col _)).isLt
    dsimp only
    refine congrArg (r + ·) ?_
    split
    · next hin =>
      have h0 := hin 0
      change n ≤ j.val * 1 + ((shape2 (n + 1) 1).rowMajor.symm q 0).val
        ∧ j.val * 1 + ((shape2 (n + 1) 1).rowMajor.symm q 0).val - n < n + 1 at h0
      rw [hw0] at h0
      rw [if_pos (by omega)]
      refine (congrArg x (funext fun a => Fin.ext ?_)).trans (hx ⟨j.val + q.val - n, by omega⟩ c)
      match a with
      | ⟨0, _⟩ =>
        show j.val * 1 + ((shape2 (n + 1) 1).rowMajor.symm q 0).val - n = j.val + q.val - n
        rw [hw0, Nat.mul_one]
      | ⟨1, _⟩ =>
        show c.val * 1 + ((shape2 (n + 1) 1).rowMajor.symm q 1).val - 0 = c.val
        rw [hw1]
        omega
    · next hin =>
      rw [if_neg fun hle => hin fun a => by
        match a with
        | ⟨0, _⟩ =>
          show n ≤ j.val * 1 + ((shape2 (n + 1) 1).rowMajor.symm q 0).val
            ∧ j.val * 1 + ((shape2 (n + 1) 1).rowMajor.symm q 0).val - n < n + 1
          rw [hw0]
          omega
        | ⟨1, _⟩ =>
          show 0 ≤ c.val * 1 + ((shape2 (n + 1) 1).rowMajor.symm q 1).val ∧ c.val * 1 + ((shape2 (n + 1) 1).rowMajor.symm q 1).val - 0 < C
          rw [hw1]
          omega]
      exact hinit
  · rw [hinit, zero_add]
    refine (congrArg List.sum (map_finRange_val _ (fun w => if n ≤ j.val + w then f (j.val + w - n) c.val else 0))).trans ?_
    rw [sum_range]
    refine Eq.trans ?_ (sum_window (fun i => f i c.val) n j.val (by omega))
    exact congrArg (fun M => ∑ w ∈ Finset.range M, (if n ≤ j.val + w then f (j.val + w - n) c.val else 0)) (numel_col (n + 1))

/-- A running sum is the last `w` entries and the running sum before them. -/
theorem split_window (f : ℕ → EReal) (t w : ℕ) :
    ∑ s ∈ Finset.range (t + 1), f s = (∑ k ∈ Finset.range w, if k ≤ t then f (t - k) else 0) + ∑ s ∈ Finset.range (t + 1 - w), f s := by
  induction w with
  | zero => simp
  | succ w ih =>
    rw [ih, Finset.sum_range_succ (n := w), add_assoc]
    congr 1
    by_cases h : w ≤ t
    · rw [if_pos h, show t + 1 - w = (t - w) + 1 by omega, Finset.sum_range_succ, show t + 1 - (w + 1) = t - w by omega, add_comm]
    · rw [if_neg h, zero_add, show t + 1 - w = t + 1 - (w + 1) by omega]

/-- A sum of real numbers is real. -/
theorem sum_real (f : ℕ → EReal) (h : ∀ s, ∃ r : ℝ, f s = r) (n : ℕ) : ∃ r : ℝ, ∑ s ∈ Finset.range n, f s = r := by
  induction n with
  | zero => exact ⟨0, by simp⟩
  | succ n ih =>
    obtain ⟨a, ha⟩ := ih
    obtain ⟨b, hb⟩ := h n
    exact ⟨a + b, by rw [Finset.sum_range_succ, ha, hb, EReal.coe_add]⟩

/-- The difference of two running sums of a finite column is the sum of the entries between them. -/
theorem window (f : ℕ → EReal) (h : ∀ s, ∃ r : ℝ, f s = r) (t w : ℕ) :
    (∑ s ∈ Finset.range (t + 1), f s) - ∑ s ∈ Finset.range (t + 1 - w), f s = ∑ k ∈ Finset.range w, if k ≤ t then f (t - k) else 0 := by
  rw [split_window f t w]
  obtain ⟨b, hb⟩ := sum_real f h (t + 1 - w)
  rw [hb, EReal.add_sub_cancel_right]

end Cert.Proof.Prefix
-- ==== Proof.Count.lean ====
/-
  The number of rows a window holds, counted on integer words as the kernel and as the reference count it.
-/
module

public import Idealize.ShloMosaic.PureOps.Ideal

@[expose] public section

noncomputable section

namespace Cert.Proof.Count

open Idealize.ShloMosaic

/-- The number of rows in a window. -/
def cnt (r w : ℕ) : EReal := (((min w (max 1 (r - 111)) : ℕ) : ℝ) : EReal)

/-- The smaller of two words, as an integer. -/
theorem toInt_minsi (x y : BitVec 32) : (IntOp.minsi x y).toInt = min x.toInt y.toInt := by
  unfold IntOp.minsi
  rw [BitVec.slt_eq_decide]
  by_cases h : x.toInt < y.toInt
  · rw [if_pos (by simpa using h)]; omega
  · rw [if_neg (by simpa using h)]; omega

/-- The larger of two words, as an integer. -/
theorem toInt_maxsi (x y : BitVec 32) : (IntOp.maxsi x y).toInt = max x.toInt y.toInt := by
  unfold IntOp.maxsi
  rw [BitVec.slt_eq_decide]
  by_cases h : y.toInt < x.toInt
  · rw [if_pos (by simpa using h)]; omega
  · rw [if_neg (by simpa using h)]; omega

/-- A small natural number as a word. -/
theorem toInt_nat (n : ℕ) (h : n < 65536) : (BitVec.ofNat 32 n).toInt = n := by
  rw [BitVec.toInt_eq_toNat_cond, BitVec.toNat_ofNat]
  split_ifs <;> omega

/-- A row's number less the padding, and one more. -/
theorem toInt_row (n : ℕ) (h : n < 8320) :
    (IntOp.addi (IntOp.subi (BitVec.ofNat 32 n) 112#32) 1#32).toInt = (n : ℤ) - 111 := by
  show ((BitVec.ofNat 32 n - 112#32) + 1#32).toInt = _
  rw [BitVec.toInt_add, BitVec.toInt_sub, toInt_nat n (by omega), show (112#32).toInt = 112 from rfl, show (1#32).toInt = 1 from rfl,
    Int.bmod_def, Int.bmod_def]
  split_ifs <;> omega

/-- A window's number of rows, counted on integer words. -/
theorem count (w : ℕ) (hw : w = 2 ∨ w = 4 ∨ w = 8 ∨ w = 16) (n : ℕ) (hn : n < 8320) :
    FloatOps.sitofp (F := Ideal) .f32 (IntOp.minsi (BitVec.ofNat 32 w) (IntOp.maxsi 1#32 (IntOp.addi (IntOp.subi (BitVec.ofNat 32 n) 112#32) 1#32))) = cnt n w := by
  have e : (IntOp.minsi (BitVec.ofNat 32 w) (IntOp.maxsi 1#32 (IntOp.addi (IntOp.subi (BitVec.ofNat 32 n) 112#32) 1#32))).toInt = ((min w (max 1 (n - 111)) : ℕ) : ℤ) := by
    rw [toInt_minsi, toInt_maxsi, toInt_row n hn, toInt_nat w (by omega), show (1#32).toInt = 1 from rfl]
    omega
  show (((IntOp.minsi (BitVec.ofNat 32 w) (IntOp.maxsi 1#32 (IntOp.addi (IntOp.subi (BitVec.ofNat 32 n) 112#32) 1#32))).toInt : ℝ) : EReal) = _
  rw [e]
  rfl

/-- The same as the reference counts it. -/
theorem countRef (w : ℕ) (hw : w = 2 ∨ w = 4 ∨ w = 8 ∨ w = 16) (n : ℕ) (hn : n < 8208) :
    FloatOps.sitofp (F := Ideal) .f32 (IntOp.minsi (IntOp.addi (BitVec.ofNat 32 n) 1#32) (BitVec.ofNat 32 w)) = cnt (n + 112) w := by
  have e : (IntOp.minsi (IntOp.addi (BitVec.ofNat 32 n) 1#32) (BitVec.ofNat 32 w)).toInt = ((min w (max 1 (n + 112 - 111)) : ℕ) : ℤ) := by
    rw [toInt_minsi, toInt_nat w (by omega)]
    show min (BitVec.ofNat 32 n + 1#32).toInt _ = _
    rw [BitVec.toInt_add, toInt_nat n (by omega), show (1#32).toInt = 1 from rfl, Int.bmod_def]
    split_ifs <;> omega
  show (((IntOp.minsi (IntOp.addi (BitVec.ofNat 32 n) 1#32) (BitVec.ofNat 32 w)).toInt : ℝ) : EReal) = _
  rw [e]
  rfl

end Cert.Proof.Count
-- ==== Proof.PoolPay.lean ====
/-
  The pooling mixer with its merge gate: the layer's formula, and each step of the kernel's body one entry at a time.
-/
module

public import proofs.«01_k».proof.Defs
public import proofs.«01_k».proof.Proof.Prefix
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The padded rows of the projection, by natural numbers: 112 rows of zeros, then the given ones. -/
def U (p : Vec Ideal S8208x22528 .bf16) (r j : ℕ) : EReal :=
  if h : 112 ≤ r ∧ r < 8320 ∧ j < 22528 then p (ix2 ⟨r - 112, by omega⟩ ⟨j, h.2.2⟩) else 0

/-- The sum of a window's entries, the window's last row `r`. -/
def W (f : ℕ → EReal) (r w : ℕ) : EReal := ∑ k ∈ Finset.range w, f (r - k)

/-- The window's mean less the row itself. -/
def pooled (p : Vec Ideal S8208x22528 .bf16) (r j w : ℕ) : EReal :=
  Ideal.div (W (fun s => U p s j) r w) (cnt r w) - U p r j

/-- The padded rows of the gates. -/
def gate (g : Vec Ideal S8208x8192 .bf16) (r : Fin 8320) (j : Fin 8192) : EReal :=
  if h : 112 ≤ r.val then g (ix2 ⟨r.val - 112, by omega⟩ j) else 0

/-- The layer's formula: the windows are 2, 4, 8 and 16 rows. -/
def spec (p : Vec Ideal S8208x22528 .bf16) (g : Vec Ideal S8208x8192 .bf16) (w : Vec Ideal S4x1024x1024 .f32) (s : Vec Ideal S4096 .f32) :
    Vec Ideal S8320x4096 .bf16 := fun i =>
  have hi : (i 1).val < 4096 := (i 1).isLt
  gate g (i 0) ⟨(i 1).val, by omega⟩
    * ((∑ k : Fin 1024, pooled p (i 0).val ((i 1).val / 1024 * 1024 + k.val) (2 ^ ((i 1).val / 1024 + 1))
        * w (ix3 ⟨(i 1).val / 1024, by omega⟩ k ⟨(i 1).val % 1024, by omega⟩)) * s (ix1 (i 1)))

/-- A window twice as long is two windows. -/
theorem W_double (f : ℕ → EReal) (r w : ℕ) : W f r w + W f (r - w) w = W f r (w + w) := by
  unfold W
  rw [Finset.sum_range_add]
  simp only [Nat.sub_sub]

/-- A window of one row. -/
theorem W_one (f : ℕ → EReal) (r : ℕ) : W f r 1 = f r := by
  unfold W
  simp

/-- The output. -/
theorem pay2 (p : Vec Ideal S1664x1024 .bf16) (w : Vec Ideal S1x1024x1024 .f32) (g : Vec Ideal S1664x1024 .bf16) (s : Vec Ideal S1x1024 .f32) (y : S1664x1024.Idx) :
    k0_pay2 p w g s y = g y * ((∑ x : Fin 1024, p (ix2 (y 0) x) * w (ix3 0 x (y 1))) * s (ix2 0 (y 1))) := by
  pointwise [k0_pay2]

/-- The pair sums. -/
theorem pay3 (a b : Vec Ideal S1688x1024 .f32) (y : S1688x1024.Idx) : k0_pay3 a b y = a y + b y := by
  pointwise [k0_pay3]

/-- The pair sums. -/
theorem pay4 (a b : Vec Ideal S1680x1024 .f32) (y : S1680x1024.Idx) : k0_pay4 a b y = a y + b y := by
  pointwise [k0_pay4]

/-- The pair sums. -/
theorem pay5 (a b : Vec Ideal S1672x1024 .f32) (y : S1672x1024.Idx) : k0_pay5 a b y = a y + b y := by
  pointwise [k0_pay5]

/-- The pair sums. -/
theorem pay11 (a b : Vec Ideal S1688x1024 .f32) (y : S1688x1024.Idx) : k0_pay11 a b y = a y + b y := by
  pointwise [k0_pay11]

/-- The pair sums. -/
theorem pay13 (a b : Vec Ideal S1688x1024 .f32) (y : S1688x1024.Idx) : k0_pay13 a b y = a y + b y := by
  pointwise [k0_pay13]

/-- The pair sums. -/
theorem pay14 (a b : Vec Ideal S1680x1024 .f32) (y : S1680x1024.Idx) : k0_pay14 a b y = a y + b y := by
  pointwise [k0_pay14]

/-- The block's own rows. -/
theorem pay8 (v : Vec Ideal S1664x1024 .bf16) (y : S1664x1024.Idx) : k0_pay8 v y = v y := by
  pointwise [k0_pay8]

/-- Where each window's block begins, and the second coordinate. -/
theorem idx : ∀ t : Fin cfg0.N, win0_0.index t = ![t.val % 5, t.val / 5] ∧ win0_1.index t = ![t.val % 5 * 52 - 1, t.val / 5]
    ∧ win0_2.index t = ![t.val / 5, 0, 0] ∧ win0_3.index t = ![0, t.val / 5] ∧ win0_4.index t = ![t.val % 5, t.val / 5]
    ∧ win0_5.index t = ![t.val % 5, t.val / 5] ∧ (grid0.coords t 1).val = t.val % 5 :=
  (by decide +kernel : ∀ t : Fin grid0.N, _)

/-- The row number less the padding. -/
theorem pay9 (t : Fin cfg0.N) (y : S1664x1.Idx) :
    k0_pay9 (grid0.coords t) y = IntOp.subi (BitVec.ofNat 32 (t.val % 5 * 1664 + (y 0).val)) 112#32 := by
  have e : k0_pay9 (grid0.coords t) y = IntOp.subi (IntOp.addi (Scalar.muli (BitVec.ofNat 32 (grid0.coords t 1).val) 1664#32) (BitVec.ofNat 32 (y 0).val)) 112#32 := by
    pointwise [k0_pay9]
  rw [e, (idx t).2.2.2.2.2.2, BitVec.ofNat_add, BitVec.ofNat_mul]
  rfl

/-- The rows before the block. -/
theorem pay7 (t : Fin cfg0.N) (v : Vec Ideal S32x1024 .bf16) (y : S32x1024.Idx) :
    k0_pay7 (grid0.coords t) v y = if t.val % 5 = 0 then 0 else v y := by
  have e : k0_pay7 (grid0.coords t) v y = Scalar.select (Scalar.cmpi .eq (BitVec.ofNat 32 (grid0.coords t 1).val) 0#32) 0 (v y) := by
    pointwise [k0_pay7]
  rw [e, (idx t).2.2.2.2.2.2]
  have h : t.val % 5 < 5 := Nat.mod_lt _ (by decide)
  generalize t.val % 5 = n at h
  interval_cases n <;> rfl

end Cert.Proof.Pool
-- ==== Proof.PoolBlk.lean ====
/-
  The pooling mixer: what each block of the operands holds, and what a read of the scratch rows returns.
-/
module

public import proofs.«01_k».proof.Defs
public import proofs.«01_k».proof.Proof.PoolPay
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- A read that lies inside the latest write. -/
theorem rdFirst {κ : Kind} {sp : Space} (v : View sig κ sp ⟨2, ![1696, 1024]⟩ .f32) (G : ℕ → ℕ → EReal) (L : List (View.Piece (Elt Ideal) ⟨2, ![1696, 1024]⟩ .f32))
    (o k o' k' : ℕ) (inb : ∀ a, (![o, 0] : Fin 2 → ℕ) a + (![k, 1024] : Fin 2 → ℕ) a ≤ (![1696, 1024] : Fin 2 → ℕ) a)
    (inb' : ∀ a, (![o', 0] : Fin 2 → ℕ) a + (![k', 1024] : Fin 2 → ℕ) a ≤ (![1696, 1024] : Fin 2 → ℕ) a)
    (P : (Rect.unit (s := ⟨2, ![1696, 1024]⟩) ![o, 0] ![k, 1024] inb).shape.Idx → Elt Ideal .f32)
    (hP : ∀ x, P x = G (o + (x 0).val) (x 1).val) (hl : o ≤ o') (hu : o' + k' ≤ o + k)
    (y : (Rect.unit (s := ⟨2, ![1696, 1024]⟩) ![o', 0] ![k', 1024] inb').toLoadRect.shape.Idx) :
    v.readCov (⟨Rect.unit (s := ⟨2, ![1696, 1024]⟩) ![o, 0] ![k, 1024] inb, P⟩ :: L) (Rect.unit (s := ⟨2, ![1696, 1024]⟩) ![o', 0] ![k', 1024] inb').toLoadRect y
      = G (o' + (y 0).val) (y 1).val := by
  rw [View.readCov_eq_canon']
  have h0 : (y 0).val < k' := (y 0).isLt
  have h1 : (y 1).val < 1024 := (y 1).isLt
  have e := View.canon_append_of_pieces (Val := Elt Ideal) (S := ⟨2, ![1696, 1024]⟩) (e := .f32) (fun z => G (z 0).val (z 1).val) L
    [⟨Rect.unit (s := ⟨2, ![1696, 1024]⟩) ![o, 0] ![k, 1024] inb, P⟩] (by
      intro p hp x
      rw [List.mem_singleton] at hp
      subst hp
      show P x = G (o + 1 * (x 0).val) (0 + 1 * (x 1).val)
      rw [hP, one_mul, one_mul, zero_add])
    ((Rect.unit (s := ⟨2, ![1696, 1024]⟩) ![o', 0] ![k', 1024] inb').toLoadRect.idx y) ⟨_, List.mem_singleton.mpr rfl, by
      refine (Rect.mem_set_unit (inb := inb)).mpr fun a => ?_
      fin_cases a
      · show o ≤ o' + 1 * (y 0).val ∧ o' + 1 * (y 0).val < o + k
        omega
      · show 0 ≤ 0 + 1 * (y 1).val ∧ 0 + 1 * (y 1).val < 0 + 1024
        omega⟩
  refine Eq.trans e ?_
  show G (o' + 1 * (y 0).val) (0 + 1 * (y 1).val) = _
  rw [one_mul, one_mul, zero_add]

/-- A read over the rows before the block and the block's own. -/
theorem rdTwo {κ : Kind} {sp : Space} (v : View sig κ sp ⟨2, ![1696, 1024]⟩ .f32) (G : ℕ → ℕ → EReal)
    (o' k' : ℕ) (inb : ∀ a, (![32, 0] : Fin 2 → ℕ) a + (![1664, 1024] : Fin 2 → ℕ) a ≤ (![1696, 1024] : Fin 2 → ℕ) a)
    (inb2 : ∀ a, (![0, 0] : Fin 2 → ℕ) a + (![32, 1024] : Fin 2 → ℕ) a ≤ (![1696, 1024] : Fin 2 → ℕ) a)
    (inb' : ∀ a, (![o', 0] : Fin 2 → ℕ) a + (![k', 1024] : Fin 2 → ℕ) a ≤ (![1696, 1024] : Fin 2 → ℕ) a)
    (P : (Rect.unit (s := ⟨2, ![1696, 1024]⟩) ![32, 0] ![1664, 1024] inb).shape.Idx → Elt Ideal .f32)
    (Q : (Rect.unit (s := ⟨2, ![1696, 1024]⟩) ![0, 0] ![32, 1024] inb2).shape.Idx → Elt Ideal .f32)
    (hP : ∀ x, P x = G (32 + (x 0).val) (x 1).val) (hQ : ∀ x, Q x = G (x 0).val (x 1).val) (hu : o' + k' ≤ 1696)
    (y : (Rect.unit (s := ⟨2, ![1696, 1024]⟩) ![o', 0] ![k', 1024] inb').toLoadRect.shape.Idx) :
    v.readCov [⟨Rect.unit (s := ⟨2, ![1696, 1024]⟩) ![32, 0] ![1664, 1024] inb, P⟩, ⟨Rect.unit (s := ⟨2, ![1696, 1024]⟩) ![0, 0] ![32, 1024] inb2, Q⟩]
        (Rect.unit (s := ⟨2, ![1696, 1024]⟩) ![o', 0] ![k', 1024] inb').toLoadRect y
      = G (o' + (y 0).val) (y 1).val := by
  rw [View.readCov_eq_canon']
  have h0 : (y 0).val < k' := (y 0).isLt
  have h1 : (y 1).val < 1024 := (y 1).isLt
  have e := View.canon_apply_of_pieces (Val := Elt Ideal) (S := ⟨2, ![1696, 1024]⟩) (e := .f32) (fun z => G (z 0).val (z 1).val)
    [⟨Rect.unit (s := ⟨2, ![1696, 1024]⟩) ![32, 0] ![1664, 1024] inb, P⟩, ⟨Rect.unit (s := ⟨2, ![1696, 1024]⟩) ![0, 0] ![32, 1024] inb2, Q⟩] (by
      intro p hp x
      rw [List.mem_cons, List.mem_singleton] at hp
      rcases hp with rfl | rfl
      · show P x = G (32 + 1 * (x 0).val) (0 + 1 * (x 1).val)
        rw [hP, one_mul, one_mul, zero_add]
      · show Q x = G (0 + 1 * (x 0).val) (0 + 1 * (x 1).val)
        rw [hQ, one_mul, one_mul, zero_add, zero_add])
    ((Rect.unit (s := ⟨2, ![1696, 1024]⟩) ![o', 0] ![k', 1024] inb').toLoadRect.idx y) (by
      by_cases h : 32 ≤ o' + (y 0).val
      · refine ⟨_, List.mem_cons_self, (Rect.mem_set_unit (inb := inb)).mpr fun a => ?_⟩
        fin_cases a
        · show 32 ≤ o' + 1 * (y 0).val ∧ o' + 1 * (y 0).val < 32 + 1664
          omega
        · show 0 ≤ 0 + 1 * (y 1).val ∧ 0 + 1 * (y 1).val < 0 + 1024
          omega
      · refine ⟨_, List.mem_cons_of_mem _ (List.mem_singleton.mpr rfl), (Rect.mem_set_unit (inb := inb2)).mpr fun a => ?_⟩
        fin_cases a
        · show 0 ≤ o' + 1 * (y 0).val ∧ o' + 1 * (y 0).val < 0 + 32
          omega
        · show 0 ≤ 0 + 1 * (y 1).val ∧ 0 + 1 * (y 1).val < 0 + 1024
          omega)
  refine Eq.trans e ?_
  show G (o' + 1 * (y 0).val) (0 + 1 * (y 1).val) = _
  rw [one_mul, one_mul, zero_add]

/-- The padded rows the call is given. -/
theorem entryX (c : Dev nD) (j : S8320x22528.Idx) : V m c main_v0 j = U (m ((c : Thread nD τ).loc main_arg0)) (j 0).val (j 1).val := by
  have e : V m c main_v0 = pad S8320x22528 ![112, 0] ![0, 0] ![0, 0] (show Vec Ideal S8208x22528 .bf16 from m ((c : Thread nD τ).loc main_arg0)) (sitofp (F := Ideal) .bf16 (constantI S_ 32 0#32)) pads_S8208x22528_S8320x22528_11200_000 h_S_ := by
    unfold V; simp only [hostOps0, hostOps0_1, hostOps0_2, hostOps0_3, hostOps0_4, List.flatten_cons, List.flatten_nil, List.cons_append, List.nil_append, StableHlo.TRef.binary, StableHlo.TRef.unary, StableHlo.TRef.toBuf, StableHlo.TRef.ofBuf, cast_eq]; after_results
  rw [e]
  have h8 : (j 0).val < 8320 := (j 0).isLt
  have h9 : (j 1).val < 22528 := (j 1).isLt
  by_cases h : 112 ≤ (j 0).val
  · rw [U, dif_pos (show 112 ≤ (j 0).val ∧ (j 0).val < 8320 ∧ (j 1).val < 22528 from ⟨h, h8, h9⟩)]
    pointwise
    rw [dif_pos ⟨h, by omega⟩]
  · rw [U, dif_neg (fun q => h q.1)]
    pointwise
    rw [dif_neg (fun q => h q.1)]
    exact zero .bf16

/-- The padded gates the call is given. -/
theorem entryG (c : Dev nD) (j : S8320x8192.Idx) : V m c main_v1 j = gate (m ((c : Thread nD τ).loc main_arg1)) (j 0) (j 1) := by
  have e : V m c main_v1 = pad S8320x8192 ![112, 0] ![0, 0] ![0, 0] (show Vec Ideal S8208x8192 .bf16 from m ((c : Thread nD τ).loc main_arg1)) (sitofp (F := Ideal) .bf16 (constantI S_ 32 0#32)) pads_S8208x8192_S8320x8192_11200_000 h_S_ := by
    unfold V; simp only [hostOps0, hostOps0_1, hostOps0_2, hostOps0_3, hostOps0_4, List.flatten_cons, List.flatten_nil, List.cons_append, List.nil_append, StableHlo.TRef.binary, StableHlo.TRef.unary, StableHlo.TRef.toBuf, StableHlo.TRef.ofBuf, cast_eq]; after_results
  rw [e]
  unfold gate
  pointwise
  have h8 : (j 0).val < 8320 := (j 0).isLt
  by_cases h : 112 ≤ (j 0).val
  · rw [dif_pos h, dif_pos ⟨h, by omega⟩]
  · rw [dif_neg h, dif_neg (fun q => h q.1)]
    exact zero .bf16

/-- The scale the call is given. -/
theorem entryS (c : Dev nD) (j : S1x4096.Idx) : V m c main_v2 j = m ((c : Thread nD τ).loc main_arg3) (ix1 (j 1)) := by
  have e : V m c main_v2 = shapeCast S1x4096 (show Vec Ideal S4096 .f32 from m ((c : Thread nD τ).loc main_arg3)) shapeCasts_S4096_S1x4096 := by
    unfold V; simp only [hostOps0, hostOps0_1, hostOps0_2, hostOps0_3, hostOps0_4, List.flatten_cons, List.flatten_nil, List.cons_append, List.nil_append, StableHlo.TRef.binary, StableHlo.TRef.unary, StableHlo.TRef.toBuf, StableHlo.TRef.ofBuf, cast_eq]; after_results
    rfl
  rw [e]
  pointwise

/-- A block of the rows. -/
theorem blkX (c : Dev nD) (t : Fin cfg0.N) (y : S1664x1024.Idx) (r k : ℕ)
    (hr : r = t.val % 5 * 1664 + (y 0).val) (hk : k = t.val / 5 * 1024 + (y 1).val) :
    iblk m c 0 t y = U (m ((c : Thread nD τ).loc main_arg0)) r k := by
  blk_simp [iblk]
  rw [entryX]
  congr 1
  all_goals (blk_simp [idx t] <;> try omega)

/-- The rows before a block. -/
theorem blkH (c : Dev nD) (t : Fin cfg0.N) (y : S32x1024.Idx) (r k : ℕ)
    (hr : r = (t.val % 5 * 52 - 1) * 32 + (y 0).val) (hk : k = t.val / 5 * 1024 + (y 1).val) :
    iblk m c 1 t y = U (m ((c : Thread nD τ).loc main_arg0)) r k := by
  blk_simp [iblk]
  rw [entryX]
  congr 1
  all_goals (blk_simp [idx t] <;> try omega)

/-- A block of the weights. -/
theorem blkW (c : Dev nD) (t : Fin cfg0.N) (y : S1x1024x1024.Idx) (n : Fin 4) (k j : Fin 1024)
    (hn : n.val = t.val / 5) (hk : k.val = (y 1).val) (hj : j.val = (y 2).val) :
    iblk m c 2 t y = m ((c : Thread nD τ).loc main_arg2) (ix3 n k j) := by
  have h0 : (y 0).val < 1 := (y 0).isLt
  blk_simp [iblk]
  rw [V_main_arg2]
  congr 1
  funext a
  fin_cases a <;> apply Fin.ext
  · blk_simp [idx t]
    dsimp only [ix3]
    omega
  · blk_simp [idx t]
    exact hk.symm
  · blk_simp [idx t]
    exact hj.symm

/-- A block of the scale. -/
theorem blkS (c : Dev nD) (t : Fin cfg0.N) (y : S1x1024.Idx) (j : Fin 4096) (hj : j.val = t.val / 5 * 1024 + (y 1).val) :
    iblk m c 3 t y = m ((c : Thread nD τ).loc main_arg3) (ix1 j) := by
  blk_simp [iblk]
  rw [entryS]
  congr 2
  apply Fin.ext
  all_goals (blk_simp [idx t] <;> try omega)

/-- A block of the gates. -/
theorem blkG (c : Dev nD) (t : Fin cfg0.N) (y : S1664x1024.Idx) (r : Fin 8320) (k : Fin 8192)
    (hr : r.val = t.val % 5 * 1664 + (y 0).val) (hk : k.val = t.val / 5 * 1024 + (y 1).val) :
    iblk m c 4 t y = gate (m ((c : Thread nD τ).loc main_arg1)) r k := by
  blk_simp [iblk]
  rw [entryG]
  congr 1 <;> apply Fin.ext
  all_goals (blk_simp [idx t] <;> try omega)

end Cert.Proof.Pool
-- ==== Proof.PoolOut.lean ====
/-
  The pooling mixer: what each point of the grid writes is the layer's formula.
-/
module

public import proofs.«01_k».proof.Defs
public import proofs.«01_k».proof.Proof.PoolBlk
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- The sum of a window's entries, the window's last row the scratch row `q`. -/
def L (c : Dev nD) (t : Fin cfg0.N) (w q j : ℕ) : EReal :=
  W (fun s => U (m ((c : Thread nD τ).loc main_arg0)) s (t.val / 5 * 1024 + j)) (t.val % 5 * 1664 + q - 32) w

/-- Two windows make one. -/
theorem lvl (c : Dev nD) (t : Fin cfg0.N) (w q q' j : ℕ) (h : q' + w = q) : L m c t w q j + L m c t w q' j = L m c t (w + w) q j := by
  unfold L
  rw [show t.val % 5 * 1664 + q' - 32 = t.val % 5 * 1664 + q - 32 - w by omega]
  exact W_double _ _ _

/-- The block's own rows, as scratch rows. -/
theorem own (c : Dev nD) (t : Fin cfg0.N) (x : S1664x1024.Idx) : iblk m c 0 t x = L m c t 1 (32 + (x 0).val) (x 1).val := by
  unfold L
  rw [W_one]
  exact blkX m c t x _ _ (by omega) rfl

/-- The rows before the block, as scratch rows. -/
theorem before (c : Dev nD) (t : Fin cfg0.N) (x : S32x1024.Idx) : k0_pay7 (grid0.coords t) (iblk m c 1 t) x = L m c t 1 (x 0).val (x 1).val := by
  have h0 : (x 0).val < 32 := (x 0).isLt
  unfold L
  rw [W_one]
  refine (pay7 t _ x).trans ?_
  by_cases h : t.val % 5 = 0
  · rw [if_pos h, U, dif_neg (by omega)]
  · rw [if_neg h]
    exact blkH m c t x _ _ (by omega) rfl

/-- A read of the rows before the block and the block's own. -/
theorem base (c : Dev nD) (t : Fin cfg0.N) {κ : Kind} {sp : Space} (v : View sig κ sp ⟨2, ![1696, 1024]⟩ .f32) (o' k' : ℕ)
    (inb : ∀ a, (![32, 0] : Fin 2 → ℕ) a + (![1664, 1024] : Fin 2 → ℕ) a ≤ (![1696, 1024] : Fin 2 → ℕ) a)
    (inb2 : ∀ a, (![0, 0] : Fin 2 → ℕ) a + (![32, 1024] : Fin 2 → ℕ) a ≤ (![1696, 1024] : Fin 2 → ℕ) a)
    (inb' : ∀ a, (![o', 0] : Fin 2 → ℕ) a + (![k', 1024] : Fin 2 → ℕ) a ≤ (![1696, 1024] : Fin 2 → ℕ) a) (hu : o' + k' ≤ 1696)
    (y : (Rect.unit (s := ⟨2, ![1696, 1024]⟩) ![o', 0] ![k', 1024] inb').toLoadRect.shape.Idx) :
    v.readCov (Val := Elt Ideal) [⟨Rect.unit (s := ⟨2, ![1696, 1024]⟩) ![32, 0] ![1664, 1024] inb, k0_pay8 (iblk m c 0 t)⟩,
        ⟨Rect.unit (s := ⟨2, ![1696, 1024]⟩) ![0, 0] ![32, 1024] inb2, k0_pay7 (grid0.coords t) (iblk m c 1 t)⟩]
        (Rect.unit (s := ⟨2, ![1696, 1024]⟩) ![o', 0] ![k', 1024] inb').toLoadRect y
      = L m c t 1 (o' + (y 0).val) (y 1).val :=
  rdTwo v (L m c t 1) o' k' inb inb2 inb' _ _ (fun x => (pay8 _ x).trans (own m c t x)) (fun x => before m c t x) hu y

/-- Windows of 1 rows make windows of 2. -/
theorem st3 (c : Dev nD) (t : Fin cfg0.N) (a b : Vec Ideal S1688x1024 .f32) (ha : ∀ x : S1688x1024.Idx, a x = L m c t 1 (8 + (x 0).val) (x 1).val)
    (hb : ∀ x : S1688x1024.Idx, b x = L m c t 1 (7 + (x 0).val) (x 1).val) (x : S1688x1024.Idx) : k0_pay3 a b x = L m c t 2 (8 + (x 0).val) (x 1).val := by
  rw [pay3, ha, hb]
  exact lvl m c t 1 _ _ _ (by omega)

/-- Windows of 1 rows make windows of 2. -/
theorem st11 (c : Dev nD) (t : Fin cfg0.N) (a b : Vec Ideal S1688x1024 .f32) (ha : ∀ x : S1688x1024.Idx, a x = L m c t 1 (8 + (x 0).val) (x 1).val)
    (hb : ∀ x : S1688x1024.Idx, b x = L m c t 1 (7 + (x 0).val) (x 1).val) (x : S1688x1024.Idx) : k0_pay11 a b x = L m c t 2 (8 + (x 0).val) (x 1).val := by
  rw [pay11, ha, hb]
  exact lvl m c t 1 _ _ _ (by omega)

/-- Windows of 1 rows make windows of 2. -/
theorem st13 (c : Dev nD) (t : Fin cfg0.N) (a b : Vec Ideal S1688x1024 .f32) (ha : ∀ x : S1688x1024.Idx, a x = L m c t 1 (8 + (x 0).val) (x 1).val)
    (hb : ∀ x : S1688x1024.Idx, b x = L m c t 1 (7 + (x 0).val) (x 1).val) (x : S1688x1024.Idx) : k0_pay13 a b x = L m c t 2 (8 + (x 0).val) (x 1).val := by
  rw [pay13, ha, hb]
  exact lvl m c t 1 _ _ _ (by omega)

/-- Windows of 2 rows make windows of 4. -/
theorem st4 (c : Dev nD) (t : Fin cfg0.N) (a b : Vec Ideal S1680x1024 .f32) (ha : ∀ x : S1680x1024.Idx, a x = L m c t 2 (16 + (x 0).val) (x 1).val)
    (hb : ∀ x : S1680x1024.Idx, b x = L m c t 2 (14 + (x 0).val) (x 1).val) (x : S1680x1024.Idx) : k0_pay4 a b x = L m c t 4 (16 + (x 0).val) (x 1).val := by
  rw [pay4, ha, hb]
  exact lvl m c t 2 _ _ _ (by omega)

/-- Windows of 2 rows make windows of 4. -/
theorem st14 (c : Dev nD) (t : Fin cfg0.N) (a b : Vec Ideal S1680x1024 .f32) (ha : ∀ x : S1680x1024.Idx, a x = L m c t 2 (16 + (x 0).val) (x 1).val)
    (hb : ∀ x : S1680x1024.Idx, b x = L m c t 2 (14 + (x 0).val) (x 1).val) (x : S1680x1024.Idx) : k0_pay14 a b x = L m c t 4 (16 + (x 0).val) (x 1).val := by
  rw [pay14, ha, hb]
  exact lvl m c t 2 _ _ _ (by omega)

/-- Windows of 4 rows make windows of 8. -/
theorem st5 (c : Dev nD) (t : Fin cfg0.N) (a b : Vec Ideal S1672x1024 .f32) (ha : ∀ x : S1672x1024.Idx, a x = L m c t 4 (24 + (x 0).val) (x 1).val)
    (hb : ∀ x : S1672x1024.Idx, b x = L m c t 4 (20 + (x 0).val) (x 1).val) (x : S1672x1024.Idx) : k0_pay5 a b x = L m c t 8 (24 + (x 0).val) (x 1).val := by
  rw [pay5, ha, hb]
  exact lvl m c t 4 _ _ _ (by omega)

/-- The mean of windows of 2 rows, less the row. -/
theorem mean2 (c : Dev nD) (t : Fin cfg0.N) (a b : Vec Ideal S1664x1024 .f32) (ha : ∀ x : S1664x1024.Idx, a x = L m c t 1 (32 + (x 0).val) (x 1).val)
    (hb : ∀ x : S1664x1024.Idx, b x = L m c t 1 (31 + (x 0).val) (x 1).val) (x : S1664x1024.Idx) (r : ℕ) (hr : r = t.val % 5 * 1664 + (x 0).val) :
    k0_pay10 (grid0.coords t) a b (iblk m c 0 t) x
      = pooled (m ((c : Thread nD τ).loc main_arg0)) r (t.val / 5 * 1024 + (x 1).val) 2 := by
  have h0 : (x 0).val < 1664 := (x 0).isLt
  have e : k0_pay10 (grid0.coords t) a b (iblk m c 0 t) x
      = Ideal.div (a x + b x) (FloatOps.sitofp (F := Ideal) .f32 (IntOp.minsi (BitVec.ofNat 32 2) (IntOp.maxsi 1#32 (IntOp.addi (k0_pay9 (grid0.coords t) (ix2 (x 0) 0)) 1#32)))) - iblk m c 0 t x := by
    pointwise [k0_pay10]
    done
  have hk := blkX m c t x r (t.val / 5 * 1024 + (x 1).val) hr rfl
  refine e.trans ?_
  have h9 := pay9 t (ix2 (x 0) 0)
  rw [h9, ha, hb, lvl m c t 1 _ _ _ (by omega)]
  refine (congrArg₂ (fun u v => Ideal.div _ u - v) (count 2 (by omega) _ (by dsimp only [ix2]; omega)) hk).trans ?_
  subst hr
  unfold pooled L
  rw [show t.val % 5 * 1664 + (32 + (x 0).val) - 32 = t.val % 5 * 1664 + (x 0).val by omega]
  rfl

/-- The mean of windows of 4 rows, less the row. -/
theorem mean4 (c : Dev nD) (t : Fin cfg0.N) (a b : Vec Ideal S1664x1024 .f32) (ha : ∀ x : S1664x1024.Idx, a x = L m c t 2 (32 + (x 0).val) (x 1).val)
    (hb : ∀ x : S1664x1024.Idx, b x = L m c t 2 (30 + (x 0).val) (x 1).val) (x : S1664x1024.Idx) (r : ℕ) (hr : r = t.val % 5 * 1664 + (x 0).val) :
    k0_pay12 (grid0.coords t) a b (iblk m c 0 t) x
      = pooled (m ((c : Thread nD τ).loc main_arg0)) r (t.val / 5 * 1024 + (x 1).val) 4 := by
  have h0 : (x 0).val < 1664 := (x 0).isLt
  have e : k0_pay12 (grid0.coords t) a b (iblk m c 0 t) x
      = Ideal.div (a x + b x) (FloatOps.sitofp (F := Ideal) .f32 (IntOp.minsi (BitVec.ofNat 32 4) (IntOp.maxsi 1#32 (IntOp.addi (k0_pay9 (grid0.coords t) (ix2 (x 0) 0)) 1#32)))) - iblk m c 0 t x := by
    pointwise [k0_pay12]
    done
  have hk := blkX m c t x r (t.val / 5 * 1024 + (x 1).val) hr rfl
  refine e.trans ?_
  have h9 := pay9 t (ix2 (x 0) 0)
  rw [h9, ha, hb, lvl m c t 2 _ _ _ (by omega)]
  refine (congrArg₂ (fun u v => Ideal.div _ u - v) (count 4 (by omega) _ (by dsimp only [ix2]; omega)) hk).trans ?_
  subst hr
  unfold pooled L
  rw [show t.val % 5 * 1664 + (32 + (x 0).val) - 32 = t.val % 5 * 1664 + (x 0).val by omega]
  rfl

/-- The mean of windows of 8 rows, less the row. -/
theorem mean8 (c : Dev nD) (t : Fin cfg0.N) (a b : Vec Ideal S1664x1024 .f32) (ha : ∀ x : S1664x1024.Idx, a x = L m c t 4 (32 + (x 0).val) (x 1).val)
    (hb : ∀ x : S1664x1024.Idx, b x = L m c t 4 (28 + (x 0).val) (x 1).val) (x : S1664x1024.Idx) (r : ℕ) (hr : r = t.val % 5 * 1664 + (x 0).val) :
    k0_pay15 (grid0.coords t) a b (iblk m c 0 t) x
      = pooled (m ((c : Thread nD τ).loc main_arg0)) r (t.val / 5 * 1024 + (x 1).val) 8 := by
  have h0 : (x 0).val < 1664 := (x 0).isLt
  have e : k0_pay15 (grid0.coords t) a b (iblk m c 0 t) x
      = Ideal.div (a x + b x) (FloatOps.sitofp (F := Ideal) .f32 (IntOp.minsi (BitVec.ofNat 32 8) (IntOp.maxsi 1#32 (IntOp.addi (k0_pay9 (grid0.coords t) (ix2 (x 0) 0)) 1#32)))) - iblk m c 0 t x := by
    pointwise [k0_pay15]
    done
  have hk := blkX m c t x r (t.val / 5 * 1024 + (x 1).val) hr rfl
  refine e.trans ?_
  have h9 := pay9 t (ix2 (x 0) 0)
  rw [h9, ha, hb, lvl m c t 4 _ _ _ (by omega)]
  refine (congrArg₂ (fun u v => Ideal.div _ u - v) (count 8 (by omega) _ (by dsimp only [ix2]; omega)) hk).trans ?_
  subst hr
  unfold pooled L
  rw [show t.val % 5 * 1664 + (32 + (x 0).val) - 32 = t.val % 5 * 1664 + (x 0).val by omega]
  rfl

/-- The mean of windows of 16 rows, less the row. -/
theorem mean16 (c : Dev nD) (t : Fin cfg0.N) (a b : Vec Ideal S1664x1024 .f32) (ha : ∀ x : S1664x1024.Idx, a x = L m c t 8 (32 + (x 0).val) (x 1).val)
    (hb : ∀ x : S1664x1024.Idx, b x = L m c t 8 (24 + (x 0).val) (x 1).val) (x : S1664x1024.Idx) (r : ℕ) (hr : r = t.val % 5 * 1664 + (x 0).val) :
    k0_pay1 (k0_pay6 (k0_pay9 (grid0.coords t)) a b) (iblk m c 0 t) x
      = pooled (m ((c : Thread nD τ).loc main_arg0)) r (t.val / 5 * 1024 + (x 1).val) 16 := by
  have h0 : (x 0).val < 1664 := (x 0).isLt
  have e : k0_pay1 (k0_pay6 (k0_pay9 (grid0.coords t)) a b) (iblk m c 0 t) x
      = Ideal.div (a x + b x) (FloatOps.sitofp (F := Ideal) .f32 (IntOp.minsi (BitVec.ofNat 32 16) (IntOp.maxsi 1#32 (IntOp.addi (k0_pay9 (grid0.coords t) (ix2 (x 0) 0)) 1#32)))) - iblk m c 0 t x := by
    pointwise [k0_pay1, k0_pay6]
    done
  have hk := blkX m c t x r (t.val / 5 * 1024 + (x 1).val) hr rfl
  refine e.trans ?_
  have h9 := pay9 t (ix2 (x 0) 0)
  rw [h9, ha, hb, lvl m c t 8 _ _ _ (by omega)]
  refine (congrArg₂ (fun u v => Ideal.div _ u - v) (count 16 (by omega) _ (by dsimp only [ix2]; omega)) hk).trans ?_
  subst hr
  unfold pooled L
  rw [show t.val % 5 * 1664 + (32 + (x 0).val) - 32 = t.val % 5 * 1664 + (x 0).val by omega]
  rfl

/-- The block's product, times the scale and the gates. -/
theorem finish (c : Dev nD) (t : Fin cfg0.N) (P : Vec Ideal S1664x1024 .bf16) (y : S1664x1024.Idx) (i : S8320x4096.Idx)
    (h0 : (i 0).val = t.val % 5 * 1664 + (y 0).val) (h1 : (i 1).val = t.val / 5 * 1024 + (y 1).val)
    (hP : ∀ (x : S1664x1024.Idx) (r : ℕ), r = t.val % 5 * 1664 + (x 0).val → P x = pooled (m ((c : Thread nD τ).loc main_arg0)) r (t.val / 5 * 1024 + (x 1).val) (2 ^ (t.val / 5 + 1))) :
    k0_pay2 P (iblk m c 2 t) (iblk m c 4 t) (iblk m c 3 t) y
      = spec (m ((c : Thread nD τ).loc main_arg0)) (m ((c : Thread nD τ).loc main_arg1)) (m ((c : Thread nD τ).loc main_arg2)) (m ((c : Thread nD τ).loc main_arg3)) i := by
  have ht : t.val < 20 := t.isLt
  have hy0 : (y 0).val < 1664 := (y 0).isLt
  have hy : (y 1).val < 1024 := (y 1).isLt
  have hi : (i 1).val < 4096 := (i 1).isLt
  have hq : (i 1).val / 1024 = t.val / 5 := by omega
  refine (pay2 P _ _ _ y).trans ?_
  unfold spec
  refine congrArg₂ (· * ·) (blkG m c t y _ _ h0 h1) (congrArg₂ (· * ·) (Finset.sum_congr rfl fun k _ => congrArg₂ (· * ·) ?_ ?_) (blkS m c t _ _ h1))
  · rw [hq]
    exact hP (ix2 (y 0) k) _ h0
  · exact blkW m c t _ _ _ _ hq rfl (by dsimp only [ix3]; omega)

/-- A point of the first group of columns. -/
theorem outA (c : Dev nD) (t : Fin cfg0.N) (y : S1664x1024.Idx) (i : S8320x4096.Idx)
    (h0 : (i 0).val = t.val % 5 * 1664 + (y 0).val) (h1 : (i 1).val = t.val / 5 * 1024 + (y 1).val) (ht : t.val / 5 = 0) :
    outsAt0 m c t.val t.isLt y
      = spec (m ((c : Thread nD τ).loc main_arg0)) (m ((c : Thread nD τ).loc main_arg1)) (m ((c : Thread nD τ).loc main_arg2)) (m ((c : Thread nD τ).loc main_arg3)) i := by
  rw [outsAt0_A m c t (by omega) (by omega) (by omega) (by omega)]
  frame_open
  simp (disch := decide) only [↓ View.readCov_skip, ↓ View.readCov_cons_toLoadRect, ↓ View.readCov_fill]
  frame_out
  refine finish m c t _ y i h0 h1 fun x r hr => ?_
  rw [show 2 ^ (t.val / 5 + 1) = 2 by rw [ht]; rfl]
  exact mean2 m c t _ _ (fun x => (pay8 _ x).trans (own m c t x)) (fun x => base m c t _ 31 1664 _ _ _ (by omega) x) x r hr

/-- A point of the second group of columns. -/
theorem outB (c : Dev nD) (t : Fin cfg0.N) (y : S1664x1024.Idx) (i : S8320x4096.Idx)
    (h0 : (i 0).val = t.val % 5 * 1664 + (y 0).val) (h1 : (i 1).val = t.val / 5 * 1024 + (y 1).val) (ht : t.val / 5 = 1) :
    outsAt0 m c t.val t.isLt y
      = spec (m ((c : Thread nD τ).loc main_arg0)) (m ((c : Thread nD τ).loc main_arg1)) (m ((c : Thread nD τ).loc main_arg2)) (m ((c : Thread nD τ).loc main_arg3)) i := by
  rw [outsAt0_B m c t (by omega) (by omega) (by omega) (by omega)]
  frame_open
  simp (disch := decide) only [↓ View.readCov_skip, ↓ View.readCov_cons_toLoadRect, ↓ View.readCov_fill]
  frame_out
  refine finish m c t _ y i h0 h1 fun x r hr => ?_
  rw [show 2 ^ (t.val / 5 + 1) = 4 by rw [ht]; rfl]
  exact mean4 m c t _ _
    (fun x => rdFirst _ (L m c t 2) _ 8 1688 32 1664 _ _ _ (st11 m c t _ _ (fun x => base m c t _ 8 1688 _ _ _ (by omega) x) (fun x => base m c t _ 7 1688 _ _ _ (by omega) x)) (by omega) (by omega) x)
    (fun x => rdFirst _ (L m c t 2) _ 8 1688 30 1664 _ _ _ (st11 m c t _ _ (fun x => base m c t _ 8 1688 _ _ _ (by omega) x) (fun x => base m c t _ 7 1688 _ _ _ (by omega) x)) (by omega) (by omega) x) x r hr

/-- A point of the third group of columns. -/
theorem outC (c : Dev nD) (t : Fin cfg0.N) (y : S1664x1024.Idx) (i : S8320x4096.Idx)
    (h0 : (i 0).val = t.val % 5 * 1664 + (y 0).val) (h1 : (i 1).val = t.val / 5 * 1024 + (y 1).val) (ht : t.val / 5 = 2) :
    outsAt0 m c t.val t.isLt y
      = spec (m ((c : Thread nD τ).loc main_arg0)) (m ((c : Thread nD τ).loc main_arg1)) (m ((c : Thread nD τ).loc main_arg2)) (m ((c : Thread nD τ).loc main_arg3)) i := by
  rw [outsAt0_C m c t (by omega) (by omega) (by omega) (by omega)]
  frame_open
  simp (disch := decide) only [↓ View.readCov_skip, ↓ View.readCov_cons_toLoadRect, ↓ View.readCov_fill]
  frame_out
  refine finish m c t _ y i h0 h1 fun x r hr => ?_
  rw [show 2 ^ (t.val / 5 + 1) = 8 by rw [ht]; rfl]
  exact mean8 m c t _ _
    (fun x => rdFirst _ (L m c t 4) _ 16 1680 32 1664 _ _ _ (st14 m c t _ _ (fun x => rdFirst _ (L m c t 2) _ 8 1688 16 1680 _ _ _ (st13 m c t _ _ (fun x => base m c t _ 8 1688 _ _ _ (by omega) x) (fun x => base m c t _ 7 1688 _ _ _ (by omega) x)) (by omega) (by omega) x) (fun x => rdFirst _ (L m c t 2) _ 8 1688 14 1680 _ _ _ (st13 m c t _ _ (fun x => base m c t _ 8 1688 _ _ _ (by omega) x) (fun x => base m c t _ 7 1688 _ _ _ (by omega) x)) (by omega) (by omega) x)) (by omega) (by omega) x)
    (fun x => rdFirst _ (L m c t 4) _ 16 1680 28 1664 _ _ _ (st14 m c t _ _ (fun x => rdFirst _ (L m c t 2) _ 8 1688 16 1680 _ _ _ (st13 m c t _ _ (fun x => base m c t _ 8 1688 _ _ _ (by omega) x) (fun x => base m c t _ 7 1688 _ _ _ (by omega) x)) (by omega) (by omega) x) (fun x => rdFirst _ (L m c t 2) _ 8 1688 14 1680 _ _ _ (st13 m c t _ _ (fun x => base m c t _ 8 1688 _ _ _ (by omega) x) (fun x => base m c t _ 7 1688 _ _ _ (by omega) x)) (by omega) (by omega) x)) (by omega) (by omega) x) x r hr

/-- A point of the fourth group of columns. -/
theorem outD (c : Dev nD) (t : Fin cfg0.N) (y : S1664x1024.Idx) (i : S8320x4096.Idx)
    (h0 : (i 0).val = t.val % 5 * 1664 + (y 0).val) (h1 : (i 1).val = t.val / 5 * 1024 + (y 1).val) (ht : t.val / 5 = 3) :
    outsAt0 m c t.val t.isLt y
      = spec (m ((c : Thread nD τ).loc main_arg0)) (m ((c : Thread nD τ).loc main_arg1)) (m ((c : Thread nD τ).loc main_arg2)) (m ((c : Thread nD τ).loc main_arg3)) i := by
  rw [outsAt0_D m c t (by omega) (by omega) (by omega) (by omega)]
  frame_open
  simp (disch := decide) only [↓ View.readCov_skip, ↓ View.readCov_cons_toLoadRect, ↓ View.readCov_fill]
  frame_out
  refine finish m c t _ y i h0 h1 fun x r hr => ?_
  rw [show 2 ^ (t.val / 5 + 1) = 16 by rw [ht]; rfl]
  exact mean16 m c t _ _
    (fun x => rdFirst _ (L m c t 8) _ 24 1672 32 1664 _ _ _ (st5 m c t _ _ (fun x => rdFirst _ (L m c t 4) _ 16 1680 24 1672 _ _ _ (st4 m c t _ _ (fun x => rdFirst _ (L m c t 2) _ 8 1688 16 1680 _ _ _ (st3 m c t _ _ (fun x => base m c t _ 8 1688 _ _ _ (by omega) x) (fun x => base m c t _ 7 1688 _ _ _ (by omega) x)) (by omega) (by omega) x) (fun x => rdFirst _ (L m c t 2) _ 8 1688 14 1680 _ _ _ (st3 m c t _ _ (fun x => base m c t _ 8 1688 _ _ _ (by omega) x) (fun x => base m c t _ 7 1688 _ _ _ (by omega) x)) (by omega) (by omega) x)) (by omega) (by omega) x) (fun x => rdFirst _ (L m c t 4) _ 16 1680 20 1672 _ _ _ (st4 m c t _ _ (fun x => rdFirst _ (L m c t 2) _ 8 1688 16 1680 _ _ _ (st3 m c t _ _ (fun x => base m c t _ 8 1688 _ _ _ (by omega) x) (fun x => base m c t _ 7 1688 _ _ _ (by omega) x)) (by omega) (by omega) x) (fun x => rdFirst _ (L m c t 2) _ 8 1688 14 1680 _ _ _ (st3 m c t _ _ (fun x => base m c t _ 8 1688 _ _ _ (by omega) x) (fun x => base m c t _ 7 1688 _ _ _ (by omega) x)) (by omega) (by omega) x)) (by omega) (by omega) x)) (by omega) (by omega) x)
    (fun x => rdFirst _ (L m c t 8) _ 24 1672 24 1664 _ _ _ (st5 m c t _ _ (fun x => rdFirst _ (L m c t 4) _ 16 1680 24 1672 _ _ _ (st4 m c t _ _ (fun x => rdFirst _ (L m c t 2) _ 8 1688 16 1680 _ _ _ (st3 m c t _ _ (fun x => base m c t _ 8 1688 _ _ _ (by omega) x) (fun x => base m c t _ 7 1688 _ _ _ (by omega) x)) (by omega) (by omega) x) (fun x => rdFirst _ (L m c t 2) _ 8 1688 14 1680 _ _ _ (st3 m c t _ _ (fun x => base m c t _ 8 1688 _ _ _ (by omega) x) (fun x => base m c t _ 7 1688 _ _ _ (by omega) x)) (by omega) (by omega) x)) (by omega) (by omega) x) (fun x => rdFirst _ (L m c t 4) _ 16 1680 20 1672 _ _ _ (st4 m c t _ _ (fun x => rdFirst _ (L m c t 2) _ 8 1688 16 1680 _ _ _ (st3 m c t _ _ (fun x => base m c t _ 8 1688 _ _ _ (by omega) x) (fun x => base m c t _ 7 1688 _ _ _ (by omega) x)) (by omega) (by omega) x) (fun x => rdFirst _ (L m c t 2) _ 8 1688 14 1680 _ _ _ (st3 m c t _ _ (fun x => base m c t _ 8 1688 _ _ _ (by omega) x) (fun x => base m c t _ 7 1688 _ _ _ (by omega) x)) (by omega) (by omega) x)) (by omega) (by omega) x)) (by omega) (by omega) x) x r hr

end Cert.Proof.Pool
-- ==== Proof.PoolFinal.lean ====
/-
  The pooling mixer: what the call leaves in its result is the layer's formula.
-/
module

public import proofs.«01_k».proof.Defs
public import proofs.«01_k».proof.Proof.PoolOut
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- The whole array, after the last point. -/
theorem final (c : Dev nD) : (dats m 0 c).arrAt 5 cfg0.N
    = spec (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  have ht : t.val < 20 := t.isLt
  by_cases h0 : t.val / 5 = 0
  · refine outA m c t y _ ?_ ?_ h0 <;> blk_simp [idx t]
  · by_cases h1 : t.val / 5 = 1
    · refine outB m c t y _ ?_ ?_ h1 <;> blk_simp [idx t]
    · by_cases h2 : t.val / 5 = 2
      · refine outC m c t y _ ?_ ?_ h2 <;> blk_simp [idx t]
      · refine outD m c t y _ ?_ ?_ (by omega) <;> blk_simp [idx t]

end Cert.Proof.Pool
-- ==== Proof.PoolRef.lean ====
/-
  The pooling mixer: where a pooled column holds real numbers, the difference of two running sums is the sum of a
  window's entries.
-/
module

public import proofs.«01_k».proof.Defs
public import proofs.«01_k».proof.Proof.PoolPay
public import proofs.«01_k».proof.Proof.Gen.Pre_pooled_columns_finite
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- The pooled columns hold real numbers. -/
theorem real [Cert.Pre_pooled_columns_finite.Facts] (hm : Cert.Pre_Kernel5Ideal_pooled_columns_finite m) (c : Dev nD) (n : Fin 8208) (k : Fin 22528) (hk : k.val < 4096) :
    ∃ r : ℝ, (show EReal from (m ((c : Thread nD τ).loc main_arg0) : Vec Ideal S8208x22528 .bf16) (ix2 n k)) = (r : EReal) := by
  have e := congrFun (hm c) (Shape.Idx.first Cert.Pre_pooled_columns_finite.Facts.h_S_)
  dsimp only [Cert.Pre_pooled_columns_finite.fn] at e
  haveI : Subsingleton Cert.Pre_pooled_columns_finite.S_.Idx := ⟨fun a b => funext fun i => i.elim0⟩
  have e2 := Host.reduce_andi_all _ _ _ _ _ e (ix2 n ⟨k.val, hk⟩)
  obtain ⟨v, hx⟩ : ∃ v : EReal, v = (m ((c : Thread nD τ).loc main_arg0) : Vec Ideal S8208x22528 .bf16) (ix2 n k) := ⟨_, rfl⟩
  have e3 : Ideal.cmp .olt (max v (-v)) (Ideal.ofBits .f32 0x7F800000#32) = 1#1 := by
    refine Eq.trans ?_ e2
    symm
    pointwise
    rw [hx]
    rfl
  have top : Ideal.ofBits .f32 0x7F800000#32 = ⊤ := by simp [Ideal.ofBits, Ideal.ieee]
  rw [top] at e3
  have lt : max v (-v) < ⊤ := by
    by_contra h
    have e4 : Ideal.cmp .olt (max v (-v)) ⊤ = 0#1 := by
      show BitVec.ofBool (decide (max v (-v) < ⊤)) = 0#1
      rw [decide_eq_false h]
      rfl
    rw [e4] at e3
    exact absurd e3 (by decide)
  have h1 : v ≠ ⊤ := fun h => by
    rw [h] at lt
    simp at lt
  have h2 : v ≠ ⊥ := fun h => by
    rw [h] at lt
    simp at lt
  exact ⟨v.toReal, hx.symm.trans (EReal.coe_toReal h1 h2).symm⟩

/-- The running sum over the rows of one pooled column. -/
theorem cum (p : Vec Ideal S8208x22528 .bf16) (h1 : S8208x22528.Slices ![0, 0] (⟨2, ![8208, 4096]⟩ : Shape)) (h2 : FTy.bits .bf16 < FTy.bits .f32)
    (h3 : (⟨0, ![]⟩ : Shape).BroadcastsInDim ⟨0, ![]⟩ (![] : Fin 0 → Fin 0))
    (h4 : (⟨2, ![8208, 4096]⟩ : Shape).ReduceWindows (![8208, 1] : Fin 2 → ℕ) ![1, 1] ![8207, 0] ![0, 0] ⟨2, ![8208, 4096]⟩) (h5 : 0 < (⟨0, ![]⟩ : Shape).numel)
    (n : Fin 8208) (k : Fin 4096) :
    Host.reduceWindowAdd ![8208, 1] ![1, 1] ![8207, 0] ![0, 0] (extf (F := Ideal) .f32 (extractStridedSlice ⟨2, ![8208, 4096]⟩ ![0, 0] p h1) h2)
        (broadcastInDim ⟨0, ![]⟩ ![] h3 (constant (F := Ideal) ⟨0, ![]⟩ .f32 0x00000000#32)) h4 h5 (ix2 n k)
      = ∑ s ∈ Finset.range (n.val + 1), U p (s + 112) k.val := by
  unfold Host.reduceWindowAdd
  rw [Ideal.hostReduceWindowAdd_def]
  refine Prefix.running (by rfl) _ (fun s k => U p (s + 112) k) (fun i c => ?_) _ _ _ ?_ n k
  · have hi := i.isLt
    have hc := c.isLt
    rw [U, dif_pos ⟨by omega, by omega, by omega⟩]
    pointwise
    congr 1
  · pointwise
    done

/-- A window's mean, from the running sums. -/
theorem meanRef (p : Vec Ideal S8208x22528 .bf16) (n : Fin 8208) (k : Fin 22528) (hp : ∀ s : Fin 8208, ∃ r : ℝ, (show EReal from p (ix2 s k)) = (r : EReal)) (w : ℕ)
    (hw : w = 2 ∨ w = 4 ∨ w = 8 ∨ w = 16) (q z : EReal) (hq : q = ∑ s ∈ Finset.range (n.val + 1), U p (s + 112) k.val)
    (hz : z = if w ≤ n.val then ∑ s ∈ Finset.range (n.val - w + 1), U p (s + 112) k.val else 0) :
    Ideal.div (q - z)
        (FloatOps.sitofp (F := Ideal) .f32 (IntOp.minsi (IntOp.addi (BitVec.ofNat 32 n.val) 1#32) (BitVec.ofNat 32 w))) - p (ix2 n k)
      = pooled p (n.val + 112) k.val w := by
  have hn := n.isLt
  have hk := k.isLt
  have hf : ∀ s, ∃ r : ℝ, U p (s + 112) k.val = (r : EReal) := by
    intro s
    unfold U
    by_cases h : 112 ≤ s + 112 ∧ s + 112 < 8320 ∧ k.val < 22528
    · rw [dif_pos h]
      exact hp _
    · rw [dif_neg h]
      exact ⟨0, rfl⟩
  have hz' : z = ∑ s ∈ Finset.range (n.val + 1 - w), U p (s + 112) k.val := by
    rw [hz]
    by_cases h : w ≤ n.val
    · rw [if_pos h, show n.val - w + 1 = n.val + 1 - w by omega]
    · rw [if_neg h, show n.val + 1 - w = 0 by omega, Finset.sum_range_zero]
  rw [hq, hz', Prefix.window (fun s => U p (s + 112) k.val) hf, countRef w hw n.val hn]
  unfold pooled W
  have e1 : U p (n.val + 112) k.val = p (ix2 n k) := by
    rw [U, dif_pos ⟨by omega, by omega, hk⟩]
    congr 1
  rw [e1]
  congr 2
  refine Finset.sum_congr rfl fun s _ => ?_
  by_cases h : s ≤ n.val
  · rw [if_pos h, show n.val - s + 112 = n.val + 112 - s by omega]
  · rw [if_neg h]
    show 0 = U p (n.val + 112 - s) k.val
    rw [U, dif_neg (by omega)]

end Cert.Proof.Pool
-- ==== Proof.Pool.lean ====
/-
  The pooling mixer with its merge gate: the kernel's tree of pair sums over the rows before a block and the block's own
  is the sum of a window's entries, and so, where the pooled columns are finite, is the reference's difference of two
  running sums.
-/
module

public import proofs.«01_k».proof.Defs
public import proofs.«01_k».proof.Proof.PoolFinal
public import proofs.«01_k».proof.Proof.PoolRef
public import proofs.«01_k».proof.Proof.Count
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.ReduceAll
public import Idealize.ShloMosaic.Lib.Pipeline.ReadBack
public import Idealize.ShloMosaic.Lib.IdealHost

@[expose] public section

set_option maxRecDepth 16384

noncomputable section

namespace Cert.Proof.Pool

open Cert.Proof.Count
open Cert.Kernel5Ideal Cert.Kernel5Ideal.Gen
open Idealize.ShloMosaic Idealize.ShloMosaic.TcCoe Idealize.ShloMosaic.Tactic
open Idealize.SL Idealize.SL.Sem

variable (m : (ℓ : Loc nD τ sig) → Buf (Elt Ideal) ℓ)

/-- A gate in a given row. -/
theorem gate_row (g : Vec Ideal S8208x8192 .bf16) (r : Fin 8320) (j : Fin 8192) (h : 112 ≤ r.val) : gate g r j = g (ix2 ⟨r.val - 112, by omega⟩ j) :=
  dif_pos h

/-- A gate in a row of padding. -/
theorem gate_pad (g : Vec Ideal S8208x8192 .bf16) (r : Fin 8320) (j : Fin 8192) (h : ¬112 ≤ r.val) : gate g r j = 0 :=
  dif_neg h

/-- The reference's running sums over the rows. -/
def sums (p : Vec Ideal Cert.Reference5Ideal.S8208x22528 .bf16) : Vec Ideal Cert.Reference5Ideal.S8208x4096 .f32 :=
  Host.reduceWindowAdd (F := Ideal) ![8208, 1] ![1, 1] ![8207, 0] ![0, 0] (extf (F := Ideal) .f32 (extractStridedSlice Cert.Reference5Ideal.S8208x4096 ![0, 0] p Cert.Reference5Ideal.Gen.slices_S8208x22528_S8208x4096_0_0) Cert.Reference5Ideal.Gen.bitsLt_bf16_f32) (broadcastInDim Cert.Reference5Ideal.S_ ![] Cert.Reference5Ideal.Gen.bcast_S_S_ (constant (F := Ideal) Cert.Reference5Ideal.S_ .f32 0x00000000#32)) Cert.Reference5Ideal.Gen.reduceWindows_S8208x4096_S8208x4096_w8208s1p8207_0_w1s1p0_0 Cert.Reference5Ideal.Gen.h_S_

theorem sums_eq (p : Vec Ideal Cert.Reference5Ideal.S8208x22528 .bf16) : sums p = Host.reduceWindowAdd (F := Ideal) ![8208, 1] ![1, 1] ![8207, 0] ![0, 0] (extf (F := Ideal) .f32 (extractStridedSlice Cert.Reference5Ideal.S8208x4096 ![0, 0] p Cert.Reference5Ideal.Gen.slices_S8208x22528_S8208x4096_0_0) Cert.Reference5Ideal.Gen.bitsLt_bf16_f32) (broadcastInDim Cert.Reference5Ideal.S_ ![] Cert.Reference5Ideal.Gen.bcast_S_S_ (constant (F := Ideal) Cert.Reference5Ideal.S_ .f32 0x00000000#32)) Cert.Reference5Ideal.Gen.reduceWindows_S8208x4096_S8208x4096_w8208s1p8207_0_w1s1p0_0 Cert.Reference5Ideal.Gen.h_S_ :=
  rfl

/-- A running sum is the sum of the rows up to its own. -/
theorem sums_apply (p : Vec Ideal Cert.Reference5Ideal.S8208x22528 .bf16) (n : Fin 8208) (k : Fin 4096) :
    sums p (ix2 n k) = ∑ s ∈ Finset.range (n.val + 1), U p (s + 112) k.val := by
  rw [sums_eq]
  exact cum p _ _ _ _ _ n k

/-- A window's mean as the reference takes it: a running sum less the running sum a window before. -/
theorem term (p : Vec Ideal S8208x22528 .bf16) (q : Fin 8208 → Fin 4096 → EReal) (hq : ∀ n k, q n k = ∑ s ∈ Finset.range (n.val + 1), U p (s + 112) k.val)
    (n : Fin 8208) (k : Fin 22528) (k' : Fin 4096) (hk : k.val = k'.val) (hp : ∀ s : Fin 8208, ∃ r : ℝ, (show EReal from p (ix2 s k)) = (r : EReal)) (w : ℕ)
    (hw : w = 2 ∨ w = 4 ∨ w = 8 ∨ w = 16) (r j w' : ℕ) (hr : r = n.val + 112) (hj : j = k.val) (hw' : w' = w) :
    Ideal.div (q n k' - (if h : w ≤ n.val ∧ n.val - w < 8208 then q ⟨n.val - w, h.2⟩ k' else FloatOps.sitofp (F := Ideal) .f32 0#32))
        (FloatOps.sitofp (F := Ideal) .f32 (IntOp.minsi (IntOp.addi (BitVec.ofNat 32 n.val) 1#32) (BitVec.ofNat 32 w))) - p (ix2 n k)
      = pooled p r j w' := by
  subst hr hj
  rw [hw']
  have hn := n.isLt
  refine meanRef p n k hp w hw _ _ (by rw [hq, hk]) ?_
  by_cases h : w ≤ n.val
  · rw [dif_pos ⟨h, by omega⟩, if_pos h, hq, hk]
  · rw [dif_neg (fun z => h z.1), if_neg h, zero]

set_option maxHeartbeats 1600000 in
/-- The pooling mixer's claim. -/
theorem algebraic [Cert.Pre_pooled_columns_finite.Facts] : Cert.algebraic_Kernel5Ideal_Reference5Ideal_pre_pooled_columns_finite := by
  intro m ρ m' ρ' hm hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  refine Eq.trans ?_ (final m c).symm
  clear h
  obtain ⟨a0, a1, a2, a3⟩ := hagree c
  have hp := real m hm c
  unfold Cert.Reference5Ideal.Value.res_main_v84
  generalize m' ((c : Thread Cert.Reference5Ideal.nD Cert.Reference5Ideal.τ).loc Cert.Reference5Ideal.main_arg0) = p at a0 ⊢
  generalize m' ((c : Thread Cert.Reference5Ideal.nD Cert.Reference5Ideal.τ).loc Cert.Reference5Ideal.main_arg1) = g at a1 ⊢
  generalize m' ((c : Thread Cert.Reference5Ideal.nD Cert.Reference5Ideal.τ).loc Cert.Reference5Ideal.main_arg2) = w at a2 ⊢
  generalize m' ((c : Thread Cert.Reference5Ideal.nD Cert.Reference5Ideal.τ).loc Cert.Reference5Ideal.main_arg3) = z at a3 ⊢
  subst a0 a1 a2 a3
  have hq := sums_apply (m ((c : Thread nD τ).loc main_arg0))
  rw [← sums_eq (m ((c : Thread nD τ).loc main_arg0))]
  generalize sums (m ((c : Thread nD τ).loc main_arg0)) = R at hq ⊢
  funext i
  have hi : (i 0).val < 8320 := (i 0).isLt
  have hj : (i 1).val < 4096 := (i 1).isLt
  unfold spec
  pointwise
  by_cases h : 112 ≤ (i 0).val
  · refine (dif_pos ⟨h, by omega⟩).trans (congrArg₂ (· * ·) (gate_row _ (i 0) _ h).symm (congrArg₂ (· * ·) ?_ rfl))
    by_cases h0 : (i 1).val < 1024
    · refine (dif_pos h0).trans ?_
      have hd : (i 1).val / 1024 = 0 := by omega
      refine Finset.sum_congr rfl fun x _ => congrArg₂ (· * ·) ?_ ?_
      · have hx := x.isLt
        exact term _ (fun n k => R (ix2 n k)) hq ⟨(i 0).val - 112, by omega⟩ ⟨x.val, by omega⟩ ⟨x.val, by omega⟩ rfl (fun s => hp s _ (by dsimp only; omega)) 2 (by omega) _ _ _ (by dsimp only; omega) (by dsimp only; omega) (by rw [hd]; rfl)
      · congr 1
        funext a
        fin_cases a <;> apply Fin.ext
        · exact hd.symm
        · rfl
        · dsimp only [ix3]
          omega
    · refine (dif_neg h0).trans ?_
      by_cases h1 : (i 1).val - 1024 < 1024
      · refine (dif_pos h1).trans ?_
        have hd : (i 1).val / 1024 = 1 := by omega
        refine Finset.sum_congr rfl fun x _ => congrArg₂ (· * ·) ?_ ?_
        · have hx := x.isLt
          exact term _ (fun n k => R (ix2 n k)) hq ⟨(i 0).val - 112, by omega⟩ ⟨1024 + x.val, by omega⟩ ⟨1024 + x.val, by omega⟩ rfl (fun s => hp s _ (by dsimp only; omega)) 4 (by omega) _ _ _ (by dsimp only; omega) (by dsimp only; omega) (by rw [hd]; rfl)
        · congr 1
          funext a
          fin_cases a <;> apply Fin.ext
          · exact hd.symm
          · rfl
          · dsimp only [ix3]
            omega
      · refine (dif_neg h1).trans ?_
        by_cases h2 : (i 1).val - 1024 - 1024 < 1024
        · refine (dif_pos h2).trans ?_
          have hd : (i 1).val / 1024 = 2 := by omega
          refine Finset.sum_congr rfl fun x _ => congrArg₂ (· * ·) ?_ ?_
          · have hx := x.isLt
            exact term _ (fun n k => R (ix2 n k)) hq ⟨(i 0).val - 112, by omega⟩ ⟨2048 + x.val, by omega⟩ ⟨2048 + x.val, by omega⟩ rfl (fun s => hp s _ (by dsimp only; omega)) 8 (by omega) _ _ _ (by dsimp only; omega) (by dsimp only; omega) (by rw [hd]; rfl)
          · congr 1
            funext a
            fin_cases a <;> apply Fin.ext
            · exact hd.symm
            · rfl
            · dsimp only [ix3]
              omega
        · refine (dif_neg h2).trans ?_
          have hd : (i 1).val / 1024 = 3 := by omega
          refine Finset.sum_congr rfl fun x _ => congrArg₂ (· * ·) ?_ ?_
          · have hx := x.isLt
            exact term _ (fun n k => R (ix2 n k)) hq ⟨(i 0).val - 112, by omega⟩ ⟨3072 + x.val, by omega⟩ ⟨3072 + x.val, by omega⟩ rfl (fun s => hp s _ (by dsimp only; omega)) 16 (by omega) _ _ _ (by dsimp only; omega) (by dsimp only; omega) (by rw [hd]; rfl)
          · congr 1
            funext a
            fin_cases a <;> apply Fin.ext
            · exact hd.symm
            · rfl
            · dsimp only [ix3]
              omega
  · refine (dif_neg (fun q => h q.1)).trans ((zero .f32).trans ?_)
    exact ((congrArg (· * _) (gate_pad _ (i 0) _ h)).trans (zero_mul _)).symm

end Cert.Proof.Pool
-- ==== Proof.Norm.lean ====
/-
  The RMS norm of the rows: 112 rows of zeros, the 16 given tokens and the sequence, in blocks of rows, are the layer's
  formula.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Norm

open Cert.Kernel6Ideal Cert.Kernel6Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The rows: 112 rows of zeros, the 16 given tokens, then the sequence. -/
def rows (tok : Vec Ideal S16x4096 .f32) (x : Vec Ideal S8192x4096 .f32) (r : Fin 8320) (j : Fin 4096) : EReal :=
  if h : 128 ≤ r.val then x (ix2 ⟨r.val - 128, by omega⟩ j)
  else if h' : 112 ≤ r.val then tok (ix2 ⟨r.val - 112, by omega⟩ j) else 0

/-- A row's entry over the root of the row's mean square, times the weight. -/
def normed (f : Fin 4096 → EReal) (j : Fin 4096) (w : EReal) : EReal :=
  f j * Ideal.rsqrt (Ideal.div (∑ k, f k * f k) (Ideal.ofBits .f32 0x45800000#32) + Ideal.ofBits .f32 0x3727C5AC#32) * w

/-- The layer's formula. -/
def spec (tok : Vec Ideal S16x4096 .f32) (x : Vec Ideal S8192x4096 .f32) (w : Vec Ideal S4096 .f32) : Vec Ideal S8320x4096 .bf16 := fun i =>
  normed (fun k => rows tok x (i 0) k) (i 1) (w (ix1 (i 1)))

/-- Equal rows and weights give equal entries. -/
theorem normed_congr {f g : Fin 4096 → EReal} (h : ∀ k, f k = g k) {j j' : Fin 4096} (hj : j = j') {w w' : EReal} (hw : w = w') : normed f j w = normed g j' w' := by
  rw [funext h, hj, hw]

/-- The first block's first rows. -/
theorem pay1 (a : Vec Ideal S128x4096 .f32) (w : Vec Ideal S1x4096 .f32) (i : S128x4096.Idx) :
    k0_pay1 a w i = normed (fun k => a (ix2 (i 0) k)) (i 1) (w (ix2 0 (i 1))) := by
  unfold normed
  pointwise [k0_pay1]

/-- The first block's other rows. -/
theorem pay2 (a : Vec Ideal S512x4096 .f32) (w : Vec Ideal S1x4096 .f32) (i : S512x4096.Idx) :
    k0_pay2 a w i = normed (fun k => a (ix2 (i 0) k)) (i 1) (w (ix2 0 (i 1))) := by
  unfold normed
  pointwise [k0_pay2]

/-- A later block's rows. -/
theorem pay3 (a : Vec Ideal S640x4096 .f32) (w : Vec Ideal S1x4096 .f32) (i : S640x4096.Idx) :
    k0_pay3 a w i = normed (fun k => a (ix2 (i 0) k)) (i 1) (w (ix2 0 (i 1))) := by
  unfold normed
  pointwise [k0_pay3]

/-- Where each window's block begins. -/
theorem idx : ∀ t : Fin cfg0.N, win0_0.index t = ![t.val * 640 - 128, 0] ∧ win0_1.index t = ![0, 0]
    ∧ win0_2.index t = ![0, 0] ∧ win0_3.index t = ![t.val, 0] :=
  (by decide +kernel : ∀ t : Fin grid0.N, _)

/-- The first rows. -/
theorem entryHead (c : Dev nD) (j : S128x4096.Idx) (x : Vec Ideal S8192x4096 .f32) (r : Fin 8320) (k : Fin 4096) (hr : r.val = (j 0).val) (hk : k.val = (j 1).val) :
    V m c main_v1 j = rows (m ((c : Thread nD τ).loc main_arg1)) x r k := by
  have e : V m c main_v1 = concatenate S128x4096 0 [⟨S112x4096, broadcastInDim S112x4096 ![] bcast_S_S112x4096 (constant (F := Ideal) S_ .f32 0x00000000#32)⟩, ⟨S16x4096, (show Vec Ideal S16x4096 .f32 from m ((c : Thread nD τ).loc main_arg1))⟩] concatenates_S112x4096_S16x4096_S128x4096_d0 := by
    unfold V; simp only [hostOps0, List.flatten_cons, List.flatten_nil, List.cons_append, List.nil_append, StableHlo.TRef.binary, StableHlo.TRef.unary, StableHlo.TRef.toBuf, StableHlo.TRef.ofBuf, cast_eq]; after_results
  rw [e]
  have h8 : (j 0).val < 128 := (j 0).isLt
  unfold rows
  rw [dif_neg (by omega)]
  pointwise
  have ek : k = j 1 := Fin.ext hk
  subst ek
  by_cases h : 112 ≤ (j 0).val
  · rw [dif_neg (by omega), dif_pos (by omega)]
    congr 3
    omega
  · rw [dif_pos (by omega), dif_neg (by omega)]

/-- The weights as a row. -/
theorem entryW (c : Dev nD) (j : S1x4096.Idx) : V m c main_v2 j = m ((c : Thread nD τ).loc main_arg2) (ix1 (j 1)) := by
  have e : V m c main_v2 = shapeCast S1x4096 (show Vec Ideal S4096 .f32 from m ((c : Thread nD τ).loc main_arg2)) shapeCasts_S4096_S1x4096 := by
    unfold V; simp only [hostOps0, List.flatten_cons, List.flatten_nil, List.cons_append, List.nil_append, StableHlo.TRef.binary, StableHlo.TRef.unary, StableHlo.TRef.toBuf, StableHlo.TRef.ofBuf, cast_eq]; after_results
    rfl
  rw [e]
  pointwise

/-- The block of the first rows. -/
theorem blkHead (c : Dev nD) (t : Fin cfg0.N) (y : S128x4096.Idx) (x : Vec Ideal S8192x4096 .f32) (r : Fin 8320) (j : Fin 4096)
    (hr : r.val = (y 0).val) (hj : j.val = (y 1).val) :
    iblk m c 1 t y = rows (m ((c : Thread nD τ).loc main_arg1)) x r j := by
  blk_simp [iblk]
  refine entryHead m c _ x r j ?_ ?_
  · blk_simp [idx t]
    exact hr
  · blk_simp [idx t]
    exact hj

/-- The block of the weights. -/
theorem blkW (c : Dev nD) (t : Fin cfg0.N) (y : S1x4096.Idx) (j : Fin 4096) (hj : j.val = (y 1).val) :
    iblk m c 2 t y = m ((c : Thread nD τ).loc main_arg2) (ix1 j) := by
  blk_simp [iblk]
  rw [entryW]
  congr 2
  apply Fin.ext
  blk_simp [idx t]
  exact hj.symm

/-- A block of the sequence's rows, found at its first element. -/
theorem blkX (c : Dev nD) (t : Fin cfg0.N) (y : S640x4096.Idx) (tok : Vec Ideal S16x4096 .f32) (r : Fin 8320) (j : Fin 4096)
    (hr : r.val = t.val * 640 - 128 + (y 0).val + 128) (hj : j.val = (y 1).val) :
    iblk m c 0 t y = rows tok (m ((c : Thread nD τ).loc main_arg0)) r j := by
  have e0 : ((win0_0.blk t).view.emb y 0).val = win0_0.index t 0 + 1 * (y 0).val := rfl
  have e1 : ((win0_0.blk t).view.emb y 1).val = win0_0.index t 1 + 1 * (y 1).val := rfl
  rw [(idx t).1] at e0 e1
  unfold rows
  rw [dif_pos (by omega)]
  have e0' : (win0_0.blk t).view.emb y 0 = (⟨r.val - 128, by omega⟩ : Fin 8192) := Fin.ext (e0.trans (by show t.val * 640 - 128 + _ = r.val - 128; omega))
  have e1' : (win0_0.blk t).view.emb y 1 = j := Fin.ext (e1.trans (by rw [hj]; show 0 + _ = _; omega))
  show V m c main_arg0 ((win0_0.blk t).view.emb y) = _
  rw [V_main_arg0, eq_ix2 ((win0_0.blk t).view.emb y), e0', e1']

/-- The first block's result. -/
theorem outA (c : Dev nD) (t : Fin cfg0.N) (ht : t.val = 0) (y : S640x4096.Idx) (i : S8320x4096.Idx)
    (h0 : (i 0).val = t.val * 640 + (y 0).val) (h1 : (i 1).val = (y 1).val) :
    (outsAt0 m c t.val t.isLt) y = spec (m ((c : Thread nD τ).loc main_arg1)) (m ((c : Thread nD τ).loc main_arg0))
      (m ((c : Thread nD τ).loc main_arg2)) i := by
  rw [outsAt0_A m c t (by omega) (by omega)]
  frame_out
  unfold spec
  canon_tiles x h using (by
    have h8 : (y 0).val < 640 := (y 0).isLt
    have h9 : (y 1).val < 4096 := (y 1).isLt
    by_cases hy : 128 ≤ (y 0).val
    · refine ⟨_, List.mem_cons_self, (Rect.mem_set_unit (inb := inb_S640x4096_S512x4096_128_0)).mpr fun a => ?_⟩
      fin_cases a
      · exact ⟨hy, h8⟩
      · exact ⟨Nat.zero_le _, h9⟩
    · refine ⟨_, List.mem_cons_of_mem _ List.mem_cons_self, (Rect.mem_set_unit (inb := inb_S640x4096_S128x4096_0_0)).mpr fun a => ?_⟩
      fin_cases a
      · exact ⟨Nat.zero_le _, Nat.lt_of_not_le hy⟩
      · exact ⟨Nat.zero_le _, h9⟩)
  · rw [pay2]
    refine normed_congr (fun k => blkX m c t _ _ _ _ ?_ ?_) (Fin.ext ?_) (blkW m c t _ _ ?_)
    · show _ = _ - 128 + (0 + 1 * (x 0).val) + 128
      omega
    · show _ = 0 + 1 * k.val
      omega
    · omega
    · show _ = (x 1).val
      omega
  · rw [pay1]
    refine normed_congr (fun k => blkHead m c t _ _ _ _ ?_ ?_) (Fin.ext ?_) (blkW m c t _ _ ?_)
    all_goals ((try dsimp only [ix2]) <;> omega)

/-- A later block's result. -/
theorem outB (c : Dev nD) (t : Fin cfg0.N) (ht : 1 ≤ t.val) (hN : t.val < 13) (y : S640x4096.Idx) (i : S8320x4096.Idx)
    (h0 : (i 0).val = t.val * 640 + (y 0).val) (h1 : (i 1).val = (y 1).val) :
    (outsAt0 m c t.val t.isLt) y = spec (m ((c : Thread nD τ).loc main_arg1)) (m ((c : Thread nD τ).loc main_arg0))
      (m ((c : Thread nD τ).loc main_arg2)) i := by
  rw [outsAt0_B m c t (by omega) ht]
  frame_out
  rw [pay3]
  unfold spec
  refine normed_congr (fun k => blkX m c t _ _ _ _ ?_ ?_) (Fin.ext ?_) (blkW m c t _ _ ?_)
  all_goals ((try dsimp only [ix2]) <;> omega)

/-- The array after the run. -/
theorem final (c : Dev nD) : (dats m 0 c).arrAt 3 cfg0.N
    = spec (m ((c : Thread nD τ).loc main_arg1)) (m ((c : Thread nD τ).loc main_arg0)) (m ((c : Thread nD τ).loc main_arg2)) := by
  refine (dats m 0 c).arrAt_eq_of_covers 3 _ (by decide +kernel) fun t hf y => ?_
  blk_simp
  rw [after0_3]
  have hN : t.val < 13 := t.isLt
  by_cases ht : t.val = 0
  · refine outA m c t ht y _ ?_ ?_
    · blk_simp [idx t]
    · blk_simp [idx t]
  · refine outB m c t (by omega) hN y _ ?_ ?_
    · blk_simp [idx t]
    · blk_simp [idx t]

/-- The norm's claim. -/
theorem algebraic : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  refine Eq.trans ?_ (final m c).symm
  clear h
  funext i
  unfold spec normed rows
  pointwise
  obtain ⟨a0, a1, a2⟩ := hagree c
  have hi : (i 0).val < 8320 := (i 0).isLt
  by_cases h3 : 112 ≤ (i 0).val
  · simp only [dif_pos (show 112 ≤ (i 0).val ∧ (i 0).val - 112 < 8208 from ⟨h3, by omega⟩), a0, a1]
    by_cases h2 : 128 ≤ (i 0).val
    · have n1 : ¬(i 0).val - 112 < 16 := by omega
      simp only [dif_neg n1, dif_pos h2, Nat.sub_sub, Nat.reduceAdd]
    · have n1 : (i 0).val - 112 < 16 := by omega
      simp only [dif_pos n1, dif_neg h2, dif_pos h3]
  · rw [dif_neg (by omega), zero]
    have h2 : ¬128 ≤ (i 0).val := by omega
    simp only [dif_neg h2, dif_neg h3, zero_mul]

end Cert.Proof.Norm
-- ==== Proof.Steps.lean ====
/-
  The dt columns of the input projection: the block-wise product with its contraction in four parts, its bias and its
  softplus, is the layer's formula.
-/
module

public import proofs.«01_k».proof.Defs
public import proofs.«01_k».proof.Proof.Maths
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Steps

open Cert.Kernel7Ideal Cert.Kernel7Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- The padded rows: 112 rows of zeros, then the given ones. -/
def rows (u : Vec Ideal S8208x4096 .bf16) (r : Fin 8320) (k : Fin 4096) : EReal :=
  if h : 112 ≤ r.val then u (ix2 ⟨r.val - 112, by omega⟩ k) else 0

/-- The column of the weights. -/
def col (j : Fin 128) : Fin 30848 := ⟨22528 + j.val, by omega⟩

/-- One of the four parts of the contraction. -/
def part (u : Vec Ideal S8208x4096 .bf16) (w : Vec Ideal S4096x30848 .f32) (i : S8320x128.Idx) (s : Fin 4) : EReal :=
  ∑ k : Fin 1024, rows u (i 0) ⟨s.val * 1024 + k.val, by omega⟩ * w (ix2 ⟨s.val * 1024 + k.val, by omega⟩ (col (i 1)))

/-- The softplus. -/
def softplus (v : EReal) : EReal := max v 0 + Ideal.log1p (Ideal.exp (-max v (-v)))

/-- The layer's formula. -/
def spec (u : Vec Ideal S8208x4096 .bf16) (w : Vec Ideal S4096x30848 .f32) (b : Vec Ideal S128 .f32) : Vec Ideal S8320x128 .f32 := fun i =>
  softplus ((∑ k : Fin 4096, rows u (i 0) k * w (ix2 k (col (i 1)))) + b (ix1 (i 1)))

/-- The first part's product. -/
theorem pay1 (a : Vec Ideal S1664x1024 .bf16) (w : Vec Ideal S1024x128 .f32) (i : S1664x128.Idx) :
    k0_pay1 a w i = ∑ k : Fin 1024, a (ix2 (i 0) k) * w (ix2 k (i 1)) := by
  pointwise [k0_pay1]

/-- A middle part's product, added. -/
theorem pay2 (acc : Vec Ideal S1664x128 .f32) (a : Vec Ideal S1664x1024 .bf16) (w : Vec Ideal S1024x128 .f32) (i : S1664x128.Idx) :
    k0_pay2 acc a w i = acc i + ∑ k : Fin 1024, a (ix2 (i 0) k) * w (ix2 k (i 1)) := by
  pointwise [k0_pay2]

/-- The last part's product, added, with the bias and the softplus. -/
theorem pay3 (acc : Vec Ideal S1664x128 .f32) (a : Vec Ideal S1664x1024 .bf16) (w : Vec Ideal S1024x128 .f32) (b : Vec Ideal S1x128 .f32) (i : S1664x128.Idx) :
    k0_pay3 acc a w b i = softplus (acc i + (∑ k : Fin 1024, a (ix2 (i 0) k) * w (ix2 k (i 1))) + b (ix2 0 (i 1))) := by
  unfold softplus
  pointwise [k0_pay3]
  rw [zero_sub]
  rfl

/-- Where each window's block begins. -/
theorem idx : ∀ t : Fin cfg0.N, win0_0.index t = ![t.val / 4, t.val % 4] ∧ win0_1.index t = ![t.val % 4, 176]
    ∧ win0_2.index t = ![0, 0] ∧ win0_3.index t = ![t.val / 4, 0] :=
  (by decide +kernel : ∀ t : Fin grid0.N, _)

/-- The rows the call is given. -/
theorem entry (c : Dev nD) (j : S8320x4096.Idx) : V m c main_v0 j = rows (m ((c : Thread nD τ).loc main_arg0)) (j 0) (j 1) := by
  have e : V m c main_v0 = pad S8320x4096 ![112, 0] ![0, 0] ![0, 0] (show Vec Ideal S8208x4096 .bf16 from m ((c : Thread nD τ).loc main_arg0)) (sitofp (F := Ideal) .bf16 (constantI S_ 32 0#32)) pads_S8208x4096_S8320x4096_11200_000 h_S_ := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
  rw [e]
  unfold rows
  pointwise
  have h8 : (j 0).val < 8320 := (j 0).isLt
  by_cases h : 112 ≤ (j 0).val
  · rw [dif_pos h, dif_pos ⟨h, by omega⟩]
  · rw [dif_neg h, dif_neg (fun q => h q.1)]
    exact zero .bf16

/-- The bias the call is given. -/
theorem entryB (c : Dev nD) (j : S1x128.Idx) : V m c main_v1 j = m ((c : Thread nD τ).loc main_arg2) (ix1 (j 1)) := by
  have e : V m c main_v1 = shapeCast S1x128 (show Vec Ideal S128 .f32 from m ((c : Thread nD τ).loc main_arg2)) shapeCasts_S128_S1x128 := by
    unfold V; simp only [hostOps0, hostOps0_1, List.flatten_cons, List.flatten_nil, List.cons_append, List.nil_append, StableHlo.TRef.binary, StableHlo.TRef.unary, StableHlo.TRef.toBuf, StableHlo.TRef.ofBuf, cast_eq]; after_results
    rfl
  rw [e]
  pointwise

/-- A block of the rows. -/
theorem blkU (c : Dev nD) (t : Fin cfg0.N) (y : S1664x1024.Idx) (r : Fin 8320) (k : Fin 4096)
    (hr : r.val = t.val / 4 * 1664 + (y 0).val) (hk : k.val = t.val % 4 * 1024 + (y 1).val) :
    iblk m c 0 t y = rows (m ((c : Thread nD τ).loc main_arg0)) r k := by
  blk_simp [iblk]
  rw [entry]
  congr 1 <;> apply Fin.ext
  all_goals (blk_simp [idx t] <;> try omega)

/-- A block of the weights. -/
theorem blkW (c : Dev nD) (t : Fin cfg0.N) (y : S1024x128.Idx) (k : Fin 4096) (j : Fin 30848)
    (hk : k.val = t.val % 4 * 1024 + (y 0).val) (hj : j.val = 22528 + (y 1).val) :
    iblk m c 1 t y = m ((c : Thread nD τ).loc main_arg1) (ix2 k j) := by
  blk_simp [iblk]
  rw [V_main_arg1]
  congr 1
  funext a
  fin_cases a <;> apply Fin.ext
  · blk_simp [idx t]
    exact hk.symm
  · blk_simp [idx t]
    exact hj.symm

/-- The block of the bias. -/
theorem blkB (c : Dev nD) (t : Fin cfg0.N) (y : S1x128.Idx) (j : Fin 128) (hj : j.val = (y 1).val) :
    iblk m c 2 t y = m ((c : Thread nD τ).loc main_arg2) (ix1 j) := by
  blk_simp [iblk]
  rw [entryB]
  congr 2
  apply Fin.ext
  blk_simp [idx t]
  exact hj.symm

/-- A point's product is its part. -/
theorem term (c : Dev nD) (t : Fin cfg0.N) (y : S1664x128.Idx) (i : S8320x128.Idx) (s : Fin 4) (hs : t.val % 4 = s.val)
    (h0 : (i 0).val = t.val / 4 * 1664 + (y 0).val) (h1 : (i 1).val = (y 1).val) :
    (∑ k : Fin 1024, (show Vec Ideal S1664x1024 .bf16 from iblk m c 0 t) (ix2 (y 0) k) * (show Vec Ideal S1024x128 .f32 from iblk m c 1 t) (ix2 k (y 1)))
      = part (m ((c : Thread nD τ).loc main_arg0)) (m ((c : Thread nD τ).loc main_arg1)) i s := by
  unfold part
  refine Fin.sum_fin_congr fun k => Ideal.mul_congr (blkU m c t _ _ _ ?_ ?_) (blkW m c t _ _ _ ?_ ?_)
  all_goals (dsimp only [ix2, col]; omega)

/-- After the first of a block's points. -/
theorem accA (c : Dev nD) (t : Fin cfg0.N) (h : t.val % 4 = 0) (y : S1664x128.Idx) :
    (outsAt0 m c t.val t.isLt).2 y = ∑ k : Fin 1024, (show Vec Ideal S1664x1024 .bf16 from iblk m c 0 t) (ix2 (y 0) k) * (show Vec Ideal S1024x128 .f32 from iblk m c 1 t) (ix2 k (y 1)) := by
  rw [outsAt0_A m c t h (by omega) (by omega)]
  dsimp only
  frame_out
  rw [pay1]

/-- After a middle point. -/
theorem accB (c : Dev nD) (p t : Fin cfg0.N) (hp : t.val = p.val + 1) (h : t.val % 4 = 1 ∨ t.val % 4 = 2) (y : S1664x128.Idx) :
    (outsAt0 m c t.val t.isLt).2 y = (outsAt0 m c p.val p.isLt).2 y
      + ∑ k : Fin 1024, (show Vec Ideal S1664x1024 .bf16 from iblk m c 0 t) (ix2 (y 0) k) * (show Vec Ideal S1024x128 .f32 from iblk m c 1 t) (ix2 k (y 1)) := by
  have e : p = ⟨t.val - 1, Nat.lt_of_le_of_lt (Nat.sub_le _ _) t.isLt⟩ := Fin.ext (by show p.val = t.val - 1; omega)
  subst e
  rw [outsAt0_B m c t (by omega) (by omega) (by omega)]
  dsimp only
  frame_out
  rw [pay2, read_unread_whole]

/-- The sum so far, before the last point. -/
theorem acc (c : Dev nD) (q : ℕ) (y : S1664x128.Idx) (i : S8320x128.Idx)
    (h0 : (i 0).val = q * 1664 + (y 0).val) (h1 : (i 1).val = (y 1).val) :
    ∀ (s : ℕ) (hs : s < 3) (hn : 4 * q + s < cfg0.N), (outsAt0 m c (4 * q + s) hn).2 y
      = ∑ s' : Fin (s + 1), part (m ((c : Thread nD τ).loc main_arg0)) (m ((c : Thread nD τ).loc main_arg1)) i ⟨s'.val, by omega⟩
  | 0, hs, hn => by
    rw [Fin.sum_univ_one]
    refine (accA m c ⟨4 * q + 0, hn⟩ (by dsimp only; omega) y).trans (term m c _ y i 0 ?_ ?_ ?_)
    all_goals (dsimp only; first | omega | (show (4 * q + 0) % 4 = 0; omega))
  | s + 1, hs, hn => by
    rw [Fin.sum_univ_castSucc]
    refine (accB m c ⟨4 * q + s, by omega⟩ ⟨4 * q + (s + 1), hn⟩ rfl (by dsimp only; omega) y).trans ?_
    refine Ideal.add_congr (acc c q y i h0 h1 s (by omega) (by omega)) (term m c _ y i ⟨s + 1, by omega⟩ ?_ ?_ ?_)
    all_goals (dsimp only; omega)

/-- The whole contraction, at a block's last point. -/
theorem total (c : Dev nD) (t : Fin cfg0.N) (h : t.val % 4 = 3) (hs : t.val - 1 < cfg0.N) (y : S1664x128.Idx) (i : S8320x128.Idx)
    (h0 : (i 0).val = t.val / 4 * 1664 + (y 0).val) (h1 : (i 1).val = (y 1).val) :
    (outsAt0 m c (t.val - 1) hs).2 y + (∑ k : Fin 1024, (show Vec Ideal S1664x1024 .bf16 from iblk m c 0 t) (ix2 (y 0) k) * (show Vec Ideal S1024x128 .f32 from iblk m c 1 t) (ix2 k (y 1)))
      = ∑ k : Fin 4096, rows (m ((c : Thread nD τ).loc main_arg0)) (i 0) k * m ((c : Thread nD τ).loc main_arg1) (ix2 k (col (i 1))) := by
  have e : ∀ (n : ℕ) (hn : n < cfg0.N), n = 4 * (t.val / 4) + 2 → (outsAt0 m c n hn).2 y
      = ∑ s' : Fin 3, part (m ((c : Thread nD τ).loc main_arg0)) (m ((c : Thread nD τ).loc main_arg1)) i ⟨s'.val, by omega⟩ := by
    intro n hn en
    subst en
    exact acc m c (t.val / 4) y i (by omega) h1 2 (by omega) hn
  rw [e _ hs (by omega)]
  refine (Ideal.add_congr rfl (term m c t y i 3 h h0 h1)).trans ?_
  refine (Fin.sum_univ_castSucc (part (m ((c : Thread nD τ).loc main_arg0)) (m ((c : Thread nD τ).loc main_arg1)) i)).symm.trans ?_
  unfold part
  refine Fin.sum_mul_add_congr fun s k hl => rfl

/-- What a block's last point leaves for the write-back. -/
theorem outC (c : Dev nD) (t : Fin cfg0.N) (h : t.val % 4 = 3) (y : S1664x128.Idx) (i : S8320x128.Idx)
    (h0 : (i 0).val = t.val / 4 * 1664 + (y 0).val) (h1 : (i 1).val = (y 1).val) :
    (outsAt0 m c t.val t.isLt).1 y = spec (m ((c : Thread nD τ).loc main_arg0)) (m ((c : Thread nD τ).loc main_arg1)) (m ((c : Thread nD τ).loc main_arg2)) i := by
  rw [outsAt0_C m c t (by omega) (by omega) h]
  dsimp only
  frame_out
  rw [read_unread_whole, pay3]
  unfold spec
  exact congrArg softplus (Ideal.add_congr (total m c t h _ y i h0 h1) (blkB m c t _ (i 1) h1))

/-- The array after the run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  have hf' := (flush0_3 t).mp hf
  blk_simp
  rw [after0_3]
  refine outC m c t hf' y _ ?_ ?_
  · blk_simp [idx t]
  · blk_simp [idx t]

/-- The dt columns' claim. -/
theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  simp only [hagree c]
  refine Eq.trans ?_ (final m c).symm
  clear h
  funext i
  unfold spec rows
  pointwise
  refine (if_neg (fun q => q rfl)).trans (congrArg softplus (congrArg₂ (· + ·) (Finset.sum_congr rfl fun k _ => congrArg (· * _) ?_) rfl))
  have hi : (i 0).val < 8320 := (i 0).isLt
  by_cases hp : 112 ≤ (i 0).val
  · rw [dif_pos hp, dif_pos]
    intro a
    fin_cases a
    · change 112 ≤ (i 0).val ∧ ((i 0).val - 112) % (0 + 1) = 0 ∧ ((i 0).val - 112) / (0 + 1) < 8208
      omega
    · change 0 ≤ k.val ∧ (k.val - 0) % (0 + 1) = 0 ∧ (k.val - 0) / (0 + 1) < 4096
      have := k.isLt
      omega
  · rw [dif_neg hp, dif_neg fun h => hp (h 0).1]
    exact zero _

end Cert.Proof.Steps
-- ==== Proof.TopFour.lean ====
/-
  The greatest entries of a row: taking the maximum and masking one place where it stands gives, over and over, the
  entries of the sorted row.
-/
module

public import Idealize.ShloMosaic.Lib.Pointwise
public import Idealize.ShloMosaic.Lib.SortFacts
public import Idealize.ShloMosaic.Lib.IdealHost

@[expose] public section

noncomputable section

namespace Cert.Proof.TopFour

open Idealize.ShloMosaic

/-- A list of a row's entries, the greatest first. -/
def IsTop {n : Nat} (f : Fin n → EReal) (l : List EReal) : Prop :=
  l.Pairwise (fun a b => b ≤ a) ∧ (l : Multiset EReal) = Finset.univ.val.map f

/-- Its head is the maximum. -/
theorem IsTop.fold {n : Nat} {f : Fin n → EReal} {a : EReal} {t : List EReal} (h : IsTop f (a :: t)) :
    Finset.univ.fold max ⊥ f = a := by
  apply le_antisymm
  · refine (Finset.fold_max_le a).mpr ⟨bot_le, fun k _ => ?_⟩
    have hk : f k ∈ ((a :: t : List EReal) : Multiset EReal) := by
      rw [h.2]; exact Multiset.mem_map_of_mem f (Finset.mem_univ k)
    rcases List.mem_cons.mp (Multiset.mem_coe.mp hk) with e | e
    · exact e.le
    · exact List.rel_of_pairwise_cons h.1 e
  · have ha : a ∈ Finset.univ.val.map f := by
      rw [← h.2]; exact Multiset.mem_coe.mpr List.mem_cons_self
    obtain ⟨k, _, e⟩ := Multiset.mem_map.mp ha
    exact (Finset.le_fold_max a).mpr (Or.inr ⟨k, Finset.mem_univ k, e.ge⟩)

/-- The maximum stands somewhere. -/
theorem IsTop.exists {n : Nat} {f : Fin n → EReal} {a : EReal} {t : List EReal} (h : IsTop f (a :: t)) : ∃ k, f k = a := by
  have ha : a ∈ Finset.univ.val.map f := by
    rw [← h.2]; exact Multiset.mem_coe.mpr List.mem_cons_self
  obtain ⟨k, _, e⟩ := Multiset.mem_map.mp ha
  exact ⟨k, e⟩

/-- Masking a place of the maximum drops the head. -/
theorem IsTop.next {n : Nat} {f : Fin n → EReal} {a : EReal} {t : List EReal} (h : IsTop f (a :: t)) {p : Fin n} (hp : f p = a)
    {g : Fin n → EReal} (hg : ∀ k, g k = if k = p then ⊥ else f k) : IsTop g (t ++ [⊥]) := by
  refine ⟨List.pairwise_append.mpr ⟨(List.pairwise_cons.mp h.1).2, List.pairwise_singleton _ _, fun x _ y hy => ?_⟩, ?_⟩
  · rw [List.mem_singleton.mp hy]; exact bot_le
  · have hu : (Finset.univ : Finset (Fin n)).val = p ::ₘ (Finset.univ.erase p).val := by
      rw [← Finset.insert_val_of_notMem (Finset.notMem_erase p _), Finset.insert_erase (Finset.mem_univ p)]
    have h2 := h.2
    rw [hu, Multiset.map_cons, hp, ← Multiset.cons_coe] at h2
    have h3 := (Multiset.cons_inj_right a).mp h2
    rw [hu, Multiset.map_cons, hg p, if_pos rfl, ← Multiset.coe_add, h3, Multiset.coe_singleton, add_comm, Multiset.singleton_add]
    congr 1
    refine Multiset.map_congr rfl fun k hk => ?_
    rw [hg k, if_neg (Finset.ne_of_mem_erase (Finset.mem_val.mp hk))]

/-- The least of the places where a row has its maximum is one of them. -/
theorem place (f : Fin 32 → EReal) (M : EReal) (hM : ∃ k, f k = M) :
    ∃ p : Fin 32, f p = M ∧ Finset.univ.fold IntOp.minsi 2147483647#32 (fun k => Scalar.select (Ideal.cmp .oeq (f k) M) (BitVec.ofNat 32 k.val) 32#32) = BitVec.ofNat 32 p.val := by
  have hs : ∀ k, Scalar.select (Ideal.cmp .oeq (f k) M) (BitVec.ofNat 32 k.val) 32#32 = if f k = M then BitVec.ofNat 32 k.val else 32#32 := by
    intro k
    unfold Scalar.select
    by_cases e : f k = M <;> simp [Ideal.cmp, e]
  simp only [hs]
  have key : ∀ s : Finset (Fin 32),
      (∃ p : Fin 32, f p = M ∧ s.fold IntOp.minsi 2147483647#32 (fun k => if f k = M then BitVec.ofNat 32 k.val else 32#32) = BitVec.ofNat 32 p.val)
      ∨ ((∀ p ∈ s, f p ≠ M) ∧ (s.fold IntOp.minsi 2147483647#32 (fun k => if f k = M then BitVec.ofNat 32 k.val else 32#32) = 32#32
        ∨ s.fold IntOp.minsi 2147483647#32 (fun k => if f k = M then BitVec.ofNat 32 k.val else 32#32) = 2147483647#32)) := by
    intro s
    induction s using Finset.induction_on with
    | empty => exact Or.inr ⟨by simp, Or.inr rfl⟩
    | insert a s ha ih =>
      rw [Finset.fold_insert ha]
      by_cases e : f a = M
      · rw [if_pos e]
        rcases ih with ⟨p, hp, hr⟩ | ⟨_, hr | hr⟩
        · left
          rw [hr]
          unfold IntOp.minsi
          split
          · exact ⟨a, e, rfl⟩
          · exact ⟨p, hp, rfl⟩
        · exact Or.inl ⟨a, e, by rw [hr]; exact (by decide : ∀ a : Fin 32, IntOp.minsi (BitVec.ofNat 32 a.val) 32#32 = BitVec.ofNat 32 a.val) a⟩
        · exact Or.inl ⟨a, e, by rw [hr]; exact (by decide : ∀ a : Fin 32, IntOp.minsi (BitVec.ofNat 32 a.val) 2147483647#32 = BitVec.ofNat 32 a.val) a⟩
      · rw [if_neg e]
        rcases ih with ⟨p, hp, hr⟩ | ⟨hn, hr | hr⟩
        · exact Or.inl ⟨p, hp, by rw [hr]; exact (by decide : ∀ a : Fin 32, IntOp.minsi 32#32 (BitVec.ofNat 32 a.val) = BitVec.ofNat 32 a.val) p⟩
        · exact Or.inr ⟨by intro p hp; rcases Finset.mem_insert.mp hp with q | q; exacts [q ▸ e, hn p q], Or.inl (by rw [hr]; decide)⟩
        · exact Or.inr ⟨by intro p hp; rcases Finset.mem_insert.mp hp with q | q; exacts [q ▸ e, hn p q], Or.inl (by rw [hr]; decide)⟩
  rcases key Finset.univ with h | ⟨hn, _⟩
  · exact h
  · obtain ⟨k, hk⟩ := hM
    exact absurd hk (hn k (Finset.mem_univ k))

/-- The mask of one place. -/
theorem masked (p k : Fin 32) (x : EReal) :
    Scalar.select (IntOp.cmpi .eq (BitVec.ofNat 32 k.val) (BitVec.ofNat 32 p.val)) ⊥ x = if k = p then ⊥ else x :=
  if_congr ((by decide : ∀ p k : Fin 32, IntOp.cmpi .eq (BitVec.ofNat 32 k.val) (BitVec.ofNat 32 p.val) = 1 ↔ k = p) p k) rfl rfl

/-- Lists of descending places read through a function. -/
theorem sorted (f : Fin 32 → EReal) : IsTop f ((sortPositions 32 (fun k k' => Ideal.cmpTotal .gt (f k) (f k') == 1#1)).map f) := by
  have hc : ∀ a b : Fin 32, (Ideal.cmpTotal .gt (f a) (f b) == 1#1) = false ↔ f a ≤ f b := by
    intro a b
    by_cases e : f b < f a
    · simp [Ideal.cmpTotal, Ideal.cmp, CmpDirection.ordered, e]
    · simp [Ideal.cmpTotal, Ideal.cmp, CmpDirection.ordered, e, not_lt.mp e]
  constructor
  · refine List.pairwise_map.mpr ((pairwise_stableSort (R := fun k k' => Ideal.cmpTotal .gt (f k) (f k') == 1#1)
      (B := fun k k' => Ideal.cmpTotal .gt (f k) (f k') == 1#1) ?_ (fun _ _ h => h) ?_ (List.finRange 32)).imp fun {a b} h => (hc b a).mp h)
    · intro a b h
      refine (hc b a).mpr (le_of_lt (lt_of_not_ge fun q => ?_))
      rw [(hc a b).mpr q] at h
      exact Bool.noConfusion h
    · intro a b c h1 h2
      exact (hc a c).mpr (((hc a b).mp h1).trans ((hc b c).mp h2))
  · rw [← Multiset.map_coe, Multiset.coe_eq_coe.mpr (perm_sortPositions 32 _)]
    rfl

end Cert.Proof.TopFour
-- ==== Proof.Ffn.lean ====
/-
  The RMS norm of the rows before the experts, the router's first result: the rows before the 112th are zeros.
-/
module

public import proofs.«01_k».proof.Defs
public import proofs.«01_k».proof.Proof.Gen.Kernel8Ideal.Value
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.IdealHost

@[expose] public section

set_option maxRecDepth 16384

noncomputable section

namespace Cert.Proof.Ffn

open Cert.Kernel8Ideal Cert.Kernel8Ideal.Gen
open Idealize.ShloMosaic Idealize.ShloMosaic.TcCoe Idealize.ShloMosaic.Tactic
open Idealize.SL Idealize.SL.Sem

variable (m : (ℓ : Loc nD τ sig) → Buf (Elt Ideal) ℓ)

/-- The integer zero, read as a float. -/
theorem zero (φ : FTy) : FloatOps.sitofp (F := Ideal) φ 0#32 = 0 := by
  show (((0#32).toInt : ℝ) : EReal) = 0
  simp

/-- A row's entry over the root of the row's mean square, times the weight. -/
def normed (f : Fin 4096 → EReal) (j : Fin 4096) (w : EReal) : EReal :=
  f j * Ideal.rsqrt (Ideal.div (∑ k, f k * f k) (Ideal.ofBits .f32 0x45800000#32) + Ideal.ofBits .f32 0x3727C5AC#32) * w

/-- Equal rows and weights give equal entries. -/
theorem normed_congr {f g : Fin 4096 → EReal} (h : ∀ k, f k = g k) {j j' : Fin 4096} (hj : j = j') {w w' : EReal} (hw : w = w') : normed f j w = normed g j' w' := by
  rw [funext h, hj, hw]

/-- The layer's formula. -/
def spec (h : Vec Ideal S8320x4096 .f32) (w : Vec Ideal S4096 .f32) : Vec Ideal S8320x4096 .f32 := fun i =>
  if 112 ≤ (i 0).val then normed (fun k => h (ix2 (i 0) k)) (i 1) (w (ix1 (i 1))) else 0

/-- Whether a block's row is one of the given ones. -/
theorem mask : ∀ (g : Fin 26) (r : Fin 320),
    (IntOp.cmpi .sge (IntOp.addi (Scalar.muli (BitVec.ofNat 32 g.val) 320#32) (BitVec.ofNat 32 r.val)) 112#32 = 1#1) = (112 ≤ g.val * 320 + r.val) := fun g r =>
  propext ((by decide +kernel : ∀ (g : Fin 26) (r : Fin 320),
    (IntOp.cmpi .sge (IntOp.addi (Scalar.muli (BitVec.ofNat 32 g.val) 320#32) (BitVec.ofNat 32 r.val)) 112#32 = 1#1) ↔ (112 ≤ g.val * 320 + r.val)) g r)

/-- A block's rows. -/
theorem pay1 (g : grid0.Coords) (a : Vec Ideal S320x4096 .f32) (w : Vec Ideal S1x4096 .f32) (i : S320x4096.Idx) :
    k0_pay1 g a w i = if 112 ≤ (g 0).val * 320 + (i 0).val then normed (fun k => a (ix2 (i 0) k)) (i 1) (w (ix2 0 (i 1))) else 0 := by
  unfold normed
  pointwise [k0_pay1]
  exact if_congr (mask ⟨(g 0).val, (g 0).isLt⟩ ⟨(i 0).val, (i 0).isLt⟩).to_iff rfl rfl

/-- Where each window's block begins. -/
theorem idx : ∀ t : Fin cfg0.N, win0_0.index t = ![t.val, 0] ∧ win0_1.index t = ![0, 0]
    ∧ win0_4.index t = ![t.val, 0] ∧ (grid0.coords t 0).val = t.val :=
  (by decide +kernel : ∀ t : Fin grid0.N, _)

/-- The weights as a row. -/
theorem entryW (c : Dev nD) (j : S1x4096.Idx) : V m c main_v0 j = m ((c : Thread nD τ).loc main_arg1) (ix1 (j 1)) := by
  have e : V m c main_v0 = shapeCast S1x4096 (show Vec Ideal S4096 .f32 from m ((c : Thread nD τ).loc main_arg1)) shapeCasts_S4096_S1x4096 := by
    unfold V; simp only [hostOps0, List.flatten_cons, List.flatten_nil, List.cons_append, List.nil_append, StableHlo.TRef.binary, StableHlo.TRef.unary, StableHlo.TRef.toBuf, StableHlo.TRef.ofBuf, cast_eq]; after_results
    rfl
  rw [e]
  pointwise

/-- The block of the weights. -/
theorem blkW (c : Dev nD) (t : Fin cfg0.N) (y : S1x4096.Idx) (j : Fin 4096) (hj : j.val = (y 1).val) :
    iblk m c 1 t y = m ((c : Thread nD τ).loc main_arg1) (ix1 j) := by
  blk_simp [iblk]
  rw [entryW]
  congr 2
  apply Fin.ext
  blk_simp [idx t]
  exact hj.symm

/-- A block of the rows. -/
theorem blkX (c : Dev nD) (t : Fin cfg0.N) (y : S320x4096.Idx) (r : Fin 8320) (j : Fin 4096)
    (hr : r.val = t.val * 320 + (y 0).val) (hj : j.val = (y 1).val) :
    iblk m c 0 t y = m ((c : Thread nD τ).loc main_arg0) (ix2 r j) := by
  have e0 : ((win0_0.blk t).view.emb y 0).val = win0_0.index t 0 * 320 + 1 * (y 0).val := rfl
  have e1 : ((win0_0.blk t).view.emb y 1).val = win0_0.index t 1 * 4096 + 1 * (y 1).val := rfl
  rw [(idx t).1] at e0 e1
  have e0' : (win0_0.blk t).view.emb y 0 = r := Fin.ext (e0.trans (by rw [hr]; show t.val * 320 + _ = _; omega))
  have e1' : (win0_0.blk t).view.emb y 1 = j := Fin.ext (e1.trans (by rw [hj]; show 0 * 4096 + _ = _; omega))
  show V m c main_arg0 ((win0_0.blk t).view.emb y) = _
  rw [V_main_arg0, eq_ix2 ((win0_0.blk t).view.emb y), e0', e1']

/-- The array after the run. -/
theorem final (c : Dev nD) : (dats m 0 c).arrAt 4 cfg0.N
    = spec (m ((c : Thread nD τ).loc main_arg0)) (m ((c : Thread nD τ).loc main_arg1)) := by
  refine (dats m 0 c).arrAt_eq_of_covers 4 _ (by decide +kernel) fun t hf y => ?_
  blk_simp
  rw [after0_4]
  frame_out
  rw [pay1]
  unfold spec
  have e0 : ((((View.whole main_v2_0).slice (win0_4.rect t)).emb y) 0).val = t.val * 320 + (y 0).val := by
    blk_simp [idx t]
  have e1 : ((((View.whole main_v2_0).slice (win0_4.rect t)).emb y) 1).val = (y 1).val := by
    blk_simp [idx t]
  rw [(idx t).2.2.2, ← e0]
  refine if_congr Iff.rfl (normed_congr (fun k => blkX m c t _ _ _ ?_ ?_) (Fin.ext ?_) (blkW m c t _ _ ?_)) rfl
  all_goals ((try dsimp only [ix2]) <;> omega)

end Cert.Proof.Ffn
-- ==== Proof.Route.lean ====
/-
  The gates: a row's logits, the four greatest of them and their softmax.
-/
module

public import proofs.«01_k».proof.Proof.TopFour
public import proofs.«01_k».proof.Proof.Ffn

@[expose] public section

set_option maxRecDepth 16384

noncomputable section

namespace Cert.Proof.Route

open Cert.Kernel8Ideal Cert.Kernel8Ideal.Gen
open Idealize.ShloMosaic Idealize.ShloMosaic.TcCoe Idealize.ShloMosaic.Tactic
open Idealize.SL Idealize.SL.Sem
open Cert.Proof.TopFour

variable (m : (ℓ : Loc nD τ sig) → Buf (Elt Ideal) ℓ)

/-- The places of a row. -/
abbrev places : IVec S320x32 32 := iota .tc S320x32 32 [1] iota_S320x32_d1_w32

theorem pay2 (g : grid0.Coords) (a : Vec Ideal S320x4096 .f32) (w : Vec Ideal S1x4096 .f32) (v : Vec Ideal S4096x32 .f32) (b : Vec Ideal S1x32 .f32) (i : S320x32.Idx) :
    k0_pay2 g a w v b i = (∑ k, k0_pay1 g a w (ix2 (i 0) k) * v (ix2 k (i 1))) + b (ix2 0 (i 1)) := by
  pointwise [k0_pay2]

/-- The word of minus infinity. -/
theorem bot : Ideal.ofBits .f32 0xFF800000#32 = ⊥ := by
  simp [Ideal.ofBits, Ideal.ieee]

theorem pay5 (g : grid0.Coords) (a : Vec Ideal S320x4096 .f32) (w : Vec Ideal S1x4096 .f32) (v : Vec Ideal S4096x32 .f32) (b : Vec Ideal S1x32 .f32) (i : S320x1.Idx) :
    k0_pay5 g a w v b i = Finset.univ.fold max ⊥ fun k : Fin 32 => k0_pay2 g a w v b (ix2 (i 0) k) := by
  rw [← bot]
  pointwise [k0_pay5]

/-- The first place of a row's maximum, as a word. -/
def first (f : Fin 32 → EReal) (M : EReal) : BitVec 32 :=
  Finset.univ.fold IntOp.minsi 2147483647#32 fun k => Scalar.select (Ideal.cmp .oeq (f k) M) (BitVec.ofNat 32 k.val) 32#32

theorem pay6 (l : FVec Ideal S320x32 .f32) (x : FVec Ideal S320x1 .f32) (i : S320x1.Idx) :
    k0_pay6 l places x i = first (fun k => l (ix2 (i 0) k)) (x (ix2 (i 0) 0)) := by
  unfold first
  pointwise [k0_pay6]

theorem pay7 (l : FVec Ideal S320x32 .f32) (x : FVec Ideal S320x1 .f32) (i : S320x32.Idx) :
    k0_pay7 l places x i = Scalar.select (IntOp.cmpi .eq (BitVec.ofNat 32 (i 1).val) (k0_pay6 l places x (ix2 (i 0) 0))) ⊥ (l i) := by
  rw [← bot]
  pointwise [k0_pay7]

theorem pay8 (l : FVec Ideal S320x32 .f32) (x : FVec Ideal S320x1 .f32) (i : S320x1.Idx) :
    k0_pay8 l places x i = Finset.univ.fold max ⊥ fun k : Fin 32 => k0_pay7 l places x (ix2 (i 0) k) := by
  rw [← bot]
  pointwise [k0_pay8]

theorem pay9 (l : FVec Ideal S320x32 .f32) (x : FVec Ideal S320x1 .f32) (i : S320x1.Idx) :
    k0_pay9 l places x i = first (fun k => k0_pay7 l places x (ix2 (i 0) k)) (k0_pay8 l places x (ix2 (i 0) 0)) := by
  unfold first
  pointwise [k0_pay9]

theorem pay10 (l : FVec Ideal S320x32 .f32) (x : FVec Ideal S320x1 .f32) (i : S320x32.Idx) :
    k0_pay10 l places x i = Scalar.select (IntOp.cmpi .eq (BitVec.ofNat 32 (i 1).val) (k0_pay9 l places x (ix2 (i 0) 0))) ⊥ (k0_pay7 l places x i) := by
  rw [← bot]
  pointwise [k0_pay10]

theorem pay11 (l : FVec Ideal S320x32 .f32) (x : FVec Ideal S320x1 .f32) (i : S320x1.Idx) :
    k0_pay11 l places x i = Finset.univ.fold max ⊥ fun k : Fin 32 => k0_pay10 l places x (ix2 (i 0) k) := by
  rw [← bot]
  pointwise [k0_pay11]

theorem pay12 (l : FVec Ideal S320x32 .f32) (x : FVec Ideal S320x1 .f32) (i : S320x1.Idx) :
    k0_pay12 l places x i = first (fun k => k0_pay10 l places x (ix2 (i 0) k)) (k0_pay11 l places x (ix2 (i 0) 0)) := by
  unfold first
  pointwise [k0_pay12]

theorem pay14 (l : FVec Ideal S320x32 .f32) (x : FVec Ideal S320x1 .f32) (i : S320x32.Idx) :
    k0_pay14 l places x i = IntOp.cmpi .eq (BitVec.ofNat 32 (i 1).val) (k0_pay12 l places x (ix2 (i 0) 0)) := by
  pointwise [k0_pay14]

theorem pay16 (l : FVec Ideal S320x32 .f32) (u : IVec S320x32 1) (i : S320x1.Idx) :
    k0_pay16 l u i = Finset.univ.fold max ⊥ fun k : Fin 32 => Scalar.select (u (ix2 (i 0) k)) ⊥ (l (ix2 (i 0) k)) := by
  rw [← bot]
  pointwise [k0_pay16, k0_pay15]

/-- The softmax of four numbers, the first of them the greatest, and zeros after it. -/
def gate (a b c d : EReal) (j : Nat) : EReal :=
  let s := Ideal.exp (a - a) + Ideal.exp (b - a) + Ideal.exp (c - a) + Ideal.exp (d - a)
  if j = 3 then Ideal.div (Ideal.exp (d - a)) s else if j = 2 then Ideal.div (Ideal.exp (c - a)) s
  else if j = 1 then Ideal.div (Ideal.exp (b - a)) s else if j = 0 then Ideal.div (Ideal.exp (a - a)) s else 0

/-- Which lane a word counts. -/
theorem lane (n : Fin 4) (j : Fin 128) : (IntOp.cmpi .eq (BitVec.ofNat 32 j.val) (BitVec.ofNat 32 n.val) = 1) ↔ j.val = n.val :=
  (by decide +kernel : ∀ (n : Fin 4) (j : Fin 128), (IntOp.cmpi .eq (BitVec.ofNat 32 j.val) (BitVec.ofNat 32 n.val) = 1) ↔ j.val = n.val) n j

theorem pay18 (a b l c u) (i : S320x128.Idx) :
    k0_pay18 (F := Ideal) (iota .tc S320x128 32 [1] iota_S320x128_d1_w32) (k0_pay4 (F := Ideal)) a b l c u i
      = gate (a (ix2 (i 0) 0)) (b (ix2 (i 0) 0)) (c (ix2 (i 0) 0)) (k0_pay16 l u (ix2 (i 0) 0)) (i 1).val := by
  pointwise [k0_pay18, k0_pay4]
  exact if_congr (lane 3 (i 1)) rfl (if_congr (lane 2 (i 1)) rfl (if_congr (lane 1 (i 1)) rfl (if_congr (lane 0 (i 1)) rfl rfl)))

/-- One round: the maximum, its first place, the mask. -/
theorem round {f g : Fin 32 → EReal} {a M : EReal} {t : List EReal} {w : BitVec 32} (h : IsTop f (a :: t)) (hM : M = a) (hw : w = first f M)
    (hg : ∀ k : Fin 32, g k = Scalar.select (IntOp.cmpi .eq (BitVec.ofNat 32 k.val) w) ⊥ (f k)) : IsTop g (t ++ [⊥]) := by
  subst hM
  obtain ⟨p, hp, e⟩ := place f M h.exists
  refine h.next hp fun k => ?_
  rw [hg k, hw]
  unfold first
  rw [e]
  exact masked p k _

/-- The four rounds on a row. -/
theorem rounds (l : FVec Ideal S320x32 .f32) (x : FVec Ideal S320x1 .f32) (r : Fin 320) {a b c d : EReal} {t : List EReal}
    (h : IsTop (fun k => l (ix2 r k)) (a :: b :: c :: d :: t)) (hx : x (ix2 r 0) = a) :
    k0_pay8 l places x (ix2 r 0) = b ∧ k0_pay11 l places x (ix2 r 0) = c
      ∧ k0_pay16 (k0_pay10 l places x) (k0_pay14 l places x) (ix2 r 0) = d := by
  have h1 := round (g := fun k => k0_pay7 l places x (ix2 r k)) h hx (pay6 l x (ix2 r 0)) (fun k => pay7 l x (ix2 r k))
  have e1 := (pay8 l x (ix2 r 0)).trans (IsTop.fold h1)
  have h2 := round (g := fun k => k0_pay10 l places x (ix2 r k)) h1 e1 (pay9 l x (ix2 r 0)) (fun k => pay10 l x (ix2 r k))
  have e2 := (pay11 l x (ix2 r 0)).trans (IsTop.fold h2)
  have h3 := round (g := fun k => Scalar.select (k0_pay14 l places x (ix2 r k)) ⊥ (k0_pay10 l places x (ix2 r k))) h2 e2 (pay12 l x (ix2 r 0))
    (fun k => by rw [pay14]; rfl)
  exact ⟨e1, e2, (pay16 _ _ (ix2 r 0)).trans (IsTop.fold h3)⟩

/-- A row's entry that stands at a place when the row is sorted. -/
def top (f : Fin 32 → EReal) (j : Fin 32) : EReal := f (sortedFrom (fun k k' => Ideal.cmpTotal .gt (f k) (f k') == 1#1) j)

theorem four (l : List EReal) (h : l.length = 32) : l = l[0] :: l[1] :: l[2] :: l[3] :: l.drop 4 := by
  rcases l with _ | ⟨a, _ | ⟨b, _ | ⟨c, _ | ⟨d, l⟩⟩⟩⟩ <;> simp at h ⊢

theorem isTop (f : Fin 32 → EReal) : ∃ t, IsTop f (top f 0 :: top f 1 :: top f 2 :: top f 3 :: t) := by
  have e := four ((sortPositions 32 (fun k k' => Ideal.cmpTotal .gt (f k) (f k') == 1#1)).map f) (by rw [List.length_map, length_sortPositions])
  have h := (congrArg (IsTop f) e).mp (sorted f)
  simp only [List.getElem_map] at h
  exact ⟨_, h⟩

end Cert.Proof.Route
-- ==== Proof.Router.lean ====
/-
  The router's normed rows and gates: the kernel's arrays are the layer's formulas.
-/
module

public import proofs.«01_k».proof.Proof.Route
public import proofs.«01_k».proof.Proof.Gen.Reference8Ideal.Run

@[expose] public section

set_option maxRecDepth 16384

noncomputable section

namespace Cert.Proof.Router

open Cert.Kernel8Ideal Cert.Kernel8Ideal.Gen
open Idealize.ShloMosaic Idealize.ShloMosaic.TcCoe Idealize.ShloMosaic.Tactic
open Idealize.SL Idealize.SL.Sem
open Cert.Proof.TopFour Cert.Proof.Route

variable (m : (ℓ : Loc nD τ sig) → Buf (Elt Ideal) ℓ)

/-- A row's logits. -/
def logits (h : Vec Ideal S8320x4096 .f32) (w : Vec Ideal S4096 .f32) (v : Vec Ideal S4096x32 .f32) (b : Vec Ideal S32 .f32) (r : Fin 8320) (e : Fin 32) : EReal :=
  (∑ k : Fin 4096, Ffn.spec h w (ix2 r k) * v (ix2 k e)) + b (ix1 e)

/-- The layer's formula for the gates. -/
def spec (h : Vec Ideal S8320x4096 .f32) (w : Vec Ideal S4096 .f32) (v : Vec Ideal S4096x32 .f32) (b : Vec Ideal S32 .f32) : Vec Ideal S8320x128 .f32 := fun i =>
  gate (top (logits h w v b (i 0)) 0) (top (logits h w v b (i 0)) 1) (top (logits h w v b (i 0)) 2) (top (logits h w v b (i 0)) 3) (i 1).val

/-- A block's gates. -/
theorem out (g : grid0.Coords) (x0 : Vec Ideal S320x4096 .f32) (x1 : Vec Ideal S1x4096 .f32) (x2 : Vec Ideal S4096x32 .f32) (x3 : Vec Ideal S1x32 .f32) (y : S320x128.Idx)
    (f : Fin 32 → EReal) (hf : ∀ e, k0_pay2 g x0 x1 x2 x3 (ix2 (y 0) e) = f e) :
    out0_6 g x0 x1 x2 x3 y = gate (top f 0) (top f 1) (top f 2) (top f 3) (y 1).val := by
  obtain ⟨t, ht⟩ := isTop f
  have h : IsTop (fun e => k0_pay2 g x0 x1 x2 x3 (ix2 (y 0) e)) (top f 0 :: top f 1 :: top f 2 :: top f 3 :: t) := by
    rw [funext hf]; exact ht
  have e0 := (pay5 g x0 x1 x2 x3 (ix2 (y 0) 0)).trans (IsTop.fold h)
  obtain ⟨e1, e2, e3⟩ := rounds (k0_pay2 g x0 x1 x2 x3) (k0_pay5 g x0 x1 x2 x3) (y 0) h e0
  unfold_out out0_6
  frame_out
  refine (pay18 _ _ _ _ _ y).trans ?_
  rw [e0, e1, e2, e3]

/-- Where each window's block begins. -/
theorem idx : ∀ t : Fin cfg0.N, win0_2.index t = ![0, 0] ∧ win0_3.index t = ![0, 0] ∧ win0_6.index t = ![t.val, 0] :=
  (by decide +kernel : ∀ t : Fin grid0.N, _)

/-- The bias as a row. -/
theorem entryB (c : Dev nD) (j : S1x32.Idx) : V m c main_v1 j = m ((c : Thread nD τ).loc main_arg3) (ix1 (j 1)) := by
  have e : V m c main_v1 = shapeCast S1x32 (show Vec Ideal S32 .f32 from m ((c : Thread nD τ).loc main_arg3)) shapeCasts_S32_S1x32 := by
    unfold V; simp only [hostOps0, List.flatten_cons, List.flatten_nil, List.cons_append, List.nil_append, StableHlo.TRef.binary, StableHlo.TRef.unary, StableHlo.TRef.toBuf, StableHlo.TRef.ofBuf, cast_eq]; after_results
    rfl
  rw [e]
  pointwise

/-- The block of the bias. -/
theorem blkB (c : Dev nD) (t : Fin cfg0.N) (y : S1x32.Idx) (j : Fin 32) (hj : j.val = (y 1).val) :
    iblk m c 3 t y = m ((c : Thread nD τ).loc main_arg3) (ix1 j) := by
  blk_simp [iblk]
  rw [entryB]
  congr 2
  apply Fin.ext
  blk_simp [idx t]
  exact hj.symm

/-- The block of the router's weights. -/
theorem blkV (c : Dev nD) (t : Fin cfg0.N) (k : Fin 4096) (j : Fin 32) :
    (show Vec Ideal S4096x32 .f32 from iblk m c 2 t) (ix2 k j) = m ((c : Thread nD τ).loc main_arg2) (ix2 k j) := by
  have e0 : ((win0_2.blk t).view.emb (ix2 k j) 0).val = win0_2.index t 0 * 4096 + 1 * k.val := rfl
  have e1 : ((win0_2.blk t).view.emb (ix2 k j) 1).val = win0_2.index t 1 * 32 + 1 * j.val := rfl
  rw [(idx t).1] at e0 e1
  have e0' : (win0_2.blk t).view.emb (ix2 k j) 0 = k := Fin.ext (e0.trans (by show 0 * 4096 + _ = _; omega))
  have e1' : (win0_2.blk t).view.emb (ix2 k j) 1 = j := Fin.ext (e1.trans (by show 0 * 32 + _ = _; omega))
  show V m c main_arg2 ((win0_2.blk t).view.emb (ix2 k j)) = _
  rw [V_main_arg2, eq_ix2 ((win0_2.blk t).view.emb (ix2 k j)), e0', e1']

/-- A block's normed rows. -/
theorem blkU (c : Dev nD) (t : Fin cfg0.N) (y : S320x4096.Idx) (i : S8320x4096.Idx) (h0 : (i 0).val = t.val * 320 + (y 0).val) (h1 : (i 1).val = (y 1).val) :
    k0_pay1 (grid0.coords t) (iblk m c 0 t) (iblk m c 1 t) y = Ffn.spec (m ((c : Thread nD τ).loc main_arg0)) (m ((c : Thread nD τ).loc main_arg1)) i := by
  rw [Ffn.pay1]
  unfold Ffn.spec
  rw [(Ffn.idx t).2.2.2, ← h0]
  refine if_congr Iff.rfl (Ffn.normed_congr (fun k => Ffn.blkX m c t _ _ _ ?_ ?_) (Fin.ext ?_) (Ffn.blkW m c t _ _ ?_)) rfl
  all_goals ((try dsimp only [ix2]) <;> omega)

/-- The gates after the run. -/
theorem final (c : Dev nD) : (dats m 0 c).arrAt 6 cfg0.N
    = spec (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have e0 : ((((View.whole main_v2_2).slice (win0_6.rect t)).emb y) 0).val = t.val * 320 + (y 0).val := by
    blk_simp [idx t]
  have e1 : ((((View.whole main_v2_2).slice (win0_6.rect t)).emb y) 1).val = (y 1).val := by
    blk_simp [idx t]
  refine (out _ _ _ _ _ _ (logits (m ((c : Thread nD τ).loc main_arg0)) (m ((c : Thread nD τ).loc main_arg1)) (m ((c : Thread nD τ).loc main_arg2)) (m ((c : Thread nD τ).loc main_arg3))
    ((((View.whole main_v2_2).slice (win0_6.rect t)).emb y) 0)) fun e => ?_).trans ?_
  · rw [pay2]
    unfold logits
    exact congrArg₂ (· + ·) (Finset.sum_congr rfl fun k _ => congrArg₂ (· * ·) (blkU m c t _ _ e0 rfl) (blkV m c t k e)) (blkB m c t _ e rfl)
  · unfold spec
    rw [e1]

/-- A position along the second axis. -/
theorem along (i : Reference8Ideal.S8320x32.Idx) (k : Fin 32) : i.along (1 : Fin 2) k = ix2 (i 0) k := by
  funext a
  fin_cases a <;> rfl

/-- The element a sort along the second axis puts at a place. -/
theorem topAlong (x : Vec Ideal Reference8Ideal.S8320x32 .f32) (i : Reference8Ideal.S8320x32.Idx) (r : Fin 8320) (p : Fin 32) (hr : i 0 = r) (hp : i 1 = p) :
    x (i.along (1 : Fin 2) (sortedFrom (fun k k' => Ideal.cmpTotal .gt (x (i.along (1 : Fin 2) k)) (x (i.along (1 : Fin 2) k')) == 1#1) (i 1)))
      = top (fun k => x (ix2 r k)) p := by
  subst hr hp
  have e : ∀ k : Fin 32, x (i.along (1 : Fin 2) k) = x (ix2 (i 0) k) := fun k => congrArg x (along i k)
  unfold top
  refine (e _).trans ?_
  have e' : (fun k => x (i.along (1 : Fin 2) k)) = fun k => x (ix2 (i 0) k) := funext e
  exact congrArg (fun f : Fin 32 → EReal => x (ix2 (i 0) (sortedFrom (fun k k' => Ideal.cmpTotal .gt (f k) (f k') == 1#1) (i 1)))) e'

/-- The host's greatest four. -/
theorem topK (x : Vec Ideal Reference8Ideal.S8320x32 .f32) (h) (j : Reference8Ideal.S8320x4.Idx) :
    (Host.topK Reference8Ideal.S8320x4 1 (FloatOps.cmpfTotal (F := Ideal) (φ := .f32) .gt) x h).1 j
      = top (fun k => x (ix2 (j 0) k)) ⟨(j 1).val, lt_trans (j 1).isLt (by decide)⟩ :=
  topAlong x (fun a => ⟨0 + (j (a.cast h.1.symm)).val, Nat.lt_of_lt_of_le (Nat.add_lt_add_left (j _).isLt _) (h.2 a)⟩) (j 0) _
    (Fin.ext (Nat.zero_add _)) (Fin.ext (Nat.zero_add _))

/-- The maximum of the greatest four is the first. -/
theorem greatest (f : Fin 32 → EReal) :
    max (Ideal.ofBits .f32 0xFF800000#32) (Finset.univ.fold max (Ideal.ofBits .f32 0xFF800000#32) fun x : Fin 4 => top f ⟨x.val, lt_trans x.isLt (by decide)⟩) = top f 0 := by
  rw [bot, max_eq_right bot_le]
  obtain ⟨t, ht⟩ := isTop f
  refine IsTop.fold (t := [top f 1, top f 2, top f 3]) ⟨ht.1.sublist (List.sublist_append_left [top f 0, top f 1, top f 2, top f 3] t), ?_⟩
  rfl

/-- The softmax of the greatest four, with zeros after it. -/
theorem soft (f : Fin 32 → EReal) (j : Nat) :
    (if h : j < 4 then
      Ideal.div (Ideal.exp (top f ⟨j, lt_trans h (by decide)⟩
          - max (Ideal.ofBits .f32 0xFF800000#32) (Finset.univ.fold max (Ideal.ofBits .f32 0xFF800000#32) fun x : Fin 4 => top f ⟨x.val, lt_trans x.isLt (by decide)⟩)))
        (∑ x : Fin 4, Ideal.exp (top f ⟨x.val, lt_trans x.isLt (by decide)⟩
          - max (Ideal.ofBits .f32 0xFF800000#32) (Finset.univ.fold max (Ideal.ofBits .f32 0xFF800000#32) fun x : Fin 4 => top f ⟨x.val, lt_trans x.isLt (by decide)⟩)))
    else FloatOps.sitofp (F := Ideal) .f32 0#32) = gate (top f 0) (top f 1) (top f 2) (top f 3) j := by
  rw [greatest, Ffn.zero, Fin.sum_univ_four]
  unfold gate
  match j with
  | 0 => rfl
  | 1 => rfl
  | 2 => rfl
  | 3 => rfl
  | j + 4 => rw [dif_neg (by omega), if_neg (by omega), if_neg (by omega), if_neg (by omega), if_neg (by omega)]

/-- The reference's normed rows. -/
theorem hostRow (h : Vec Ideal S8320x4096 .f32) (w : Vec Ideal S4096 .f32) (r : Fin 8320) (x : Fin 4096) :
    (if q : 112 ≤ r.val ∧ r.val - 112 < 8208 then
      h (ix2 ⟨112 + (r.val - 112), by omega⟩ x)
        * Ideal.rsqrt (Ideal.div (∑ k : Fin 4096, h (ix2 ⟨112 + (r.val - 112), by omega⟩ k) * h (ix2 ⟨112 + (r.val - 112), by omega⟩ k)) (Ideal.ofBits .f32 0x45800000#32)
          + Ideal.ofBits .f32 0x3727C5AC#32) * w (ix1 x)
    else FloatOps.sitofp (F := Ideal) .f32 0#32) = Ffn.spec h w (ix2 r x) := by
  have hr := r.isLt
  show _ = if 112 ≤ r.val then Ffn.normed (fun k => h (ix2 r k)) x (w (ix1 x)) else 0
  by_cases q : 112 ≤ r.val
  · have e : (⟨112 + (r.val - 112), by omega⟩ : Fin 8320) = r := Fin.ext (by show 112 + _ = _; omega)
    rw [dif_pos ⟨q, by omega⟩, if_pos q]
    exact Ffn.normed_congr (f := fun k => h (ix2 ⟨112 + (r.val - 112), by omega⟩ k)) (g := fun k => h (ix2 r k)) (fun k => congrArg (fun r => h (ix2 r k)) e) rfl rfl
  · rw [dif_neg (by omega), if_neg q, Ffn.zero]

/-- The gates by the reference. -/
theorem host (c : Dev nD) (m' : (ℓ : Loc Reference8Ideal.nD Reference8Ideal.τ Reference8Ideal.sig) → Buf (Elt Ideal) ℓ) :
    Reference8Ideal.Value.res_main_v30 m' c = spec (m' ((c.tc : Thread Reference8Ideal.nD Reference8Ideal.τ).loc Reference8Ideal.main_arg0)) (m' ((c.tc : Thread Reference8Ideal.nD Reference8Ideal.τ).loc Reference8Ideal.main_arg1)) (m' ((c.tc : Thread Reference8Ideal.nD Reference8Ideal.τ).loc Reference8Ideal.main_arg2)) (m' ((c.tc : Thread Reference8Ideal.nD Reference8Ideal.τ).loc Reference8Ideal.main_arg3)) := by
  unfold Reference8Ideal.Value.res_main_v30
  funext i
  unfold spec
  pointwise [topK]
  refine (soft _ _).trans ?_
  refine congrArg (fun f => gate (top f 0) (top f 1) (top f 2) (top f 3) (i 1).val) (funext fun k => ?_)
  exact congrArg₂ (· + ·) (Finset.sum_congr rfl fun x _ => congrArg₂ (· * ·) (hostRow _ _ (i 0) x) rfl) rfl

/-- The router's claim. -/
theorem algebraic : Cert.algebraic_Kernel8Ideal_Reference8Ideal := by
  intro m ρ m' ρ' _ hagree
  refine ⟨_, _, (θ_run Cert.Kernel8Ideal.defs _ _).mono (fun _ h c => ⟨(h c).1, (h c).2.2⟩) (Cert.Kernel8Ideal.Value.run_blocks (F := Ideal) m ρ), ?_⟩
  refine (θ_run Cert.Reference8Ideal.defs _ _).mono (fun _ h c => ⟨?_, ?_, (h c).2.2⟩) (Cert.Reference8Ideal.Value.run (F := Ideal) m' ρ')
  · rw [(h c).1]
    simp only [hagree c]
    refine Eq.trans ?_ (Ffn.final m c).symm
    clear h
    funext i
    pointwise
    rw [eq_ix2 i]
    exact hostRow _ _ (i 0) (i 1)
  · rw [(h c).2.1, host c m']
    obtain ⟨a0, a1, a2, a3⟩ := hagree c
    rw [a0, a1, a2, a3]
    exact (final m c).symm

end Cert.Proof.Router
-- ==== Proof.lean ====
/- The claims together: the frames from the generated runs, the value claims from the modules Gates, Main, OutProj,
   Merge, Pool, Norm, Steps and Router.
-/
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.KernelIdeal.Value
public import proofs.«01_k».proof.Proof.Gen.Pre_pooled_columns_finite
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.ReferenceIdeal.Run
public import proofs.«01_k».proof.Proof.Gates
public import proofs.«01_k».proof.Proof.Main
public import proofs.«01_k».proof.Proof.OutProj
public import proofs.«01_k».proof.Proof.Merge
public import proofs.«01_k».proof.Proof.Pool
public import proofs.«01_k».proof.Proof.Norm
public import proofs.«01_k».proof.Proof.Steps
public import proofs.«01_k».proof.Proof.Router
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_pooled_columns_finite.Gen.facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, quiescent_Reference4Ideal, fun m ρ _ => Cert.Kernel5.Gen.frame m ρ, fun m ρ _ => Cert.Kernel5Ideal.Gen.frame m ρ, fun m ρ _ => Cert.Kernel5Ideal.Gen.frame m ρ, quiescent_Reference5Ideal, fun m ρ _ => quiescent_Reference5Ideal m ρ trivial, fun m ρ _ => Cert.Kernel6.Gen.frame m ρ, fun m ρ _ => Cert.Kernel6Ideal.Gen.frame m ρ, quiescent_Reference6Ideal, fun m ρ _ => Cert.Kernel7.Gen.frame m ρ, fun m ρ _ => Cert.Kernel7Ideal.Gen.frame m ρ, quiescent_Reference7Ideal, fun m ρ _ => Cert.Kernel8.Gen.frame m ρ, fun m ρ _ => Cert.Kernel8Ideal.Gen.frame m ρ, quiescent_Reference8Ideal, (trivial : preserves_Kernel_KernelIdeal), Gates.algebraic, (trivial : preserves_Kernel2_Kernel2Ideal), Main.algebraic, (trivial : preserves_Kernel3_Kernel3Ideal), OutProj.algebraic, (trivial : preserves_Kernel4_Kernel4Ideal), Merge.algebraic, (trivial : preserves_Kernel5_Kernel5Ideal), Pool.algebraic, (trivial : preserves_Kernel6_Kernel6Ideal), Norm.algebraic, (trivial : preserves_Kernel7_Kernel7Ideal), Steps.algebraic, (trivial : preserves_Kernel8_Kernel8Ideal), Router.algebraic⟩

end Cert.Proof

end
